-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)) (v5 : (c : Dev Cert.KernelIdeal.nD) → Buf (Elt Ideal) ((c.tc : Thread Cert.KernelIdeal.nD Cert.KernelIdeal.τ).loc Cert.KernelIdeal.main_v9)) (v6 : (c : Dev Cert.KernelIdeal.nD) → Buf (Elt Ideal) ((c.tc : Thread Cert.KernelIdeal.nD Cert.KernelIdeal.τ).loc Cert.KernelIdeal.main_v10)) (v7 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_v9) = v5 c
          ∧ r.2.mem ((c.tc : Thread Cert.KernelIdeal.nD Cert.KernelIdeal.τ).loc Cert.KernelIdeal.main_v10) = v6 c
          ∧ r.2.mem ((c.tc : Thread Cert.KernelIdeal.nD Cert.KernelIdeal.τ).loc Cert.KernelIdeal.main_v11) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_v57) = v4 c
          ∧ r.2.mem ((c.tc : Thread Cert.ReferenceIdeal.nD Cert.ReferenceIdeal.τ).loc Cert.ReferenceIdeal.main_v65) = v5 c
          ∧ r.2.mem ((c.tc : Thread Cert.ReferenceIdeal.nD Cert.ReferenceIdeal.τ).loc Cert.ReferenceIdeal.main_v66) = v6 c
          ∧ r.2.mem ((c.tc : Thread Cert.ReferenceIdeal.nD Cert.ReferenceIdeal.τ).loc Cert.ReferenceIdeal.main_v67) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S262144x64 : Shape := ⟨2, ![262144, 64]⟩
abbrev S262144 : Shape := ⟨1, ![262144]⟩
abbrev S64x262144 : Shape := ⟨2, ![64, 262144]⟩
abbrev S2048x128 : Shape := ⟨2, ![2048, 128]⟩
abbrev S64x16384 : Shape := ⟨2, ![64, 16384]⟩
abbrev S128x128 : Shape := ⟨2, ![128, 128]⟩
abbrev S1x16384 : Shape := ⟨2, ![1, 16384]⟩

abbrev nBuf : Space → Nat
  | .hbm => 22
  | .vmem => 22
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S262144, .f32⟩
  | .hbm, ⟨3, _⟩ => ⟨S64x262144, .f32⟩
  | .hbm, ⟨4, _⟩ => ⟨S64x262144, .f32⟩
  | .hbm, ⟨5, _⟩ => ⟨S2048x128, .f32⟩
  | .hbm, ⟨6, _⟩ => ⟨S64x262144, .f32⟩
  | .hbm, ⟨7, _⟩ => ⟨S64x262144, .f32⟩
  | .hbm, ⟨8, _⟩ => ⟨S64x262144, .f32⟩
  | .hbm, ⟨9, _⟩ => ⟨S64x262144, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S2048x128, .f32⟩
  | .hbm, ⟨14, _⟩ => ⟨S262144x64, .f32⟩
  | .hbm, ⟨15, _⟩ => ⟨S262144x64, .f32⟩
  | .hbm, ⟨16, _⟩ => ⟨S262144, .f32⟩
  | .hbm, ⟨17, _⟩ => ⟨S262144x64, .f32⟩
  | .hbm, ⟨18, _⟩ => ⟨S262144x64, .f32⟩
  | .hbm, ⟨19, _⟩ => ⟨S262144, .f32⟩
  | .hbm, ⟨20, _⟩ => ⟨S262144, .f32⟩
  | .hbm, ⟨21, _⟩ => ⟨S262144, .f32⟩
  | .local _ .vmem, ⟨0, _⟩ => ⟨S64x16384, .f32⟩
  | .local _ .vmem, ⟨1, _⟩ => ⟨S64x16384, .f32⟩
  | .local _ .vmem, ⟨2, _⟩ => ⟨S64x16384, .f32⟩
  | .local _ .vmem, ⟨3, _⟩ => ⟨S64x16384, .f32⟩
  | .local _ .vmem, ⟨4, _⟩ => ⟨S128x128, .f32⟩
  | .local _ .vmem, ⟨5, _⟩ => ⟨S128x128, .f32⟩
  | .local _ .vmem, ⟨6, _⟩ => ⟨S64x16384, .f32⟩
  | .local _ .vmem, ⟨7, _⟩ => ⟨S64x16384, .f32⟩
  | .local _ .vmem, ⟨8, _⟩ => ⟨S64x16384, .f32⟩
  | .local _ .vmem, ⟨9, _⟩ => ⟨S64x16384, .f32⟩
  | .local _ .vmem, ⟨10, _⟩ => ⟨S64x16384, .f32⟩
  | .local _ .vmem, ⟨11, _⟩ => ⟨S64x16384, .f32⟩
  | .local _ .vmem, ⟨12, _⟩ => ⟨S64x16384, .f32⟩
  | .local _ .vmem, ⟨13, _⟩ => ⟨S64x16384, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev main_v3_7 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S262144x64 : Shape := ⟨2, ![262144, 64]⟩
abbrev S262144 : Shape := ⟨1, ![262144]⟩
abbrev S262144x1 : Shape := ⟨2, ![262144, 1]⟩
abbrev S_ : Shape := ⟨0, ![]⟩
abbrev S1 : Shape := ⟨1, ![1]⟩
abbrev S2 : Shape := ⟨1, ![2]⟩

abbrev nBuf : Space → Nat
  | .hbm => 367
  | .vmem => 0
  | .smem => 0
  | _ => 0

abbrev hbmTy0_0 (i : Nat) : BufTy := match i % 128 with
  | 0 => ⟨S262144x64, .f32⟩
  | 1 => ⟨S262144x64, .f32⟩
  | 2 => ⟨S262144, .f32⟩
  | 3 => ⟨S262144x1, .f32⟩
  | 4 => ⟨S262144, .f32⟩
  | 5 => ⟨S262144x1, .f32⟩
  | 6 => ⟨S262144, .f32⟩
  | 7 => ⟨S262144, .f32⟩
  | 8 => ⟨S262144, .f32⟩
  | 9 => ⟨S_, .f32⟩
  | 10 => ⟨S262144, .f32⟩
  | 11 => ⟨S262144, .i1⟩
  | 12 => ⟨S_, .f32⟩
  | 13 => ⟨S262144, .f32⟩
  | 14 => ⟨S262144, .i1⟩
  | 15 => ⟨S262144, .i1⟩
  | 16 => ⟨S262144, .f32⟩
  | 17 => ⟨S_, .f32⟩
  | 18 => ⟨S_, .f32⟩
  | 19 => ⟨S262144, .f32⟩
  | 20 => ⟨S262144, .f32⟩
  | 21 => ⟨S_, .f32⟩
  | 22 => ⟨S262144, .f32⟩
  | 23 => ⟨S262144, .i1⟩
  | 24 => ⟨S_, .f32⟩
  | 25 => ⟨S262144, .f32⟩
  | 26 => ⟨S262144, .i1⟩
  | 27 => ⟨S_, .f32⟩
  | 28 => ⟨S262144, .f32⟩
  | 29 => ⟨S262144, .f32⟩
  | 30 => ⟨S262144, .f32⟩
  | 31 => ⟨S_, .f32⟩
  | 32 => ⟨S_, .f32⟩
  | 33 => ⟨S262144, .f32⟩
  | 34 => ⟨S262144, .f32⟩
  | 35 => ⟨S_, .f32⟩
  | 36 => ⟨S_, .f32⟩
  | 37 => ⟨S262144, .f32⟩
  | 38 => ⟨S262144, .f32⟩
  | 39 => ⟨S_, .f32⟩
  | 40 => ⟨S_, .f32⟩
  | 41 => ⟨S_, .f32⟩
  | 42 => ⟨S262144, .f32⟩
  | 43 => ⟨S262144, .f32⟩
  | 44 => ⟨S_, .f32⟩
  | 45 => ⟨S262144, .f32⟩
  | 46 => ⟨S262144, .f32⟩
  | 47 => ⟨S_, .f32⟩
  | 48 => ⟨S262144, .f32⟩
  | 49 => ⟨S262144, .f32⟩
  | 50 => ⟨S_, .i32⟩
  | 51 => ⟨S_, .i32⟩
  | 52 => ⟨S_, .i32⟩
  | 53 => ⟨S_, .i32⟩
  | 54 => ⟨S1, .i32⟩
  | 55 => ⟨S_, .i32⟩
  | 56 => ⟨S_, .i32⟩
  | 57 => ⟨S_, .i32⟩
  | 58 => ⟨S1, .i32⟩
  | 59 => ⟨S2, .i32⟩
  | 60 => ⟨S_, .f32⟩
  | 61 => ⟨S_, .f32⟩
  | 62 => ⟨S_, .f32⟩
  | 63 => ⟨S_, .f32⟩
  | 64 => ⟨S1, .f32⟩
  | 65 => ⟨S1, .f32⟩
  | 66 => ⟨S1, .i32⟩
  | 67 => ⟨S_, .i32⟩
  | 68 => ⟨S1, .i32⟩
  | 69 => ⟨S_, .i32⟩
  | 70 => ⟨S262144, .i64⟩
  | 71 => ⟨S_, .i64⟩
  | 72 => ⟨S262144, .i64⟩
  | 73 => ⟨S262144, .i64⟩
  | 74 => ⟨S_, .i64⟩
  | 75 => ⟨S262144, .i64⟩
  | 76 => ⟨S262144, .i64⟩
  | 77 => ⟨S262144, .i32⟩
  | 78 => ⟨S262144, .i32⟩
  | 79 => ⟨S_, .i32⟩
  | 80 => ⟨S_, .i32⟩
  | 81 => ⟨S_, .i32⟩
  | 82 => ⟨S262144, .i32⟩
  | 83 => ⟨S262144, .i32⟩
  | 84 => ⟨S262144, .i32⟩
  | 85 => ⟨S262144, .i32⟩
  | 86 => ⟨S262144, .i32⟩
  | 87 => ⟨S_, .i32⟩
  | 88 => ⟨S262144, .i32⟩
  | 89 => ⟨S262144, .i32⟩
  | 90 => ⟨S_, .i32⟩
  | 91 => ⟨S262144, .i32⟩
  | 92 => ⟨S262144, .i32⟩
  | 93 => ⟨S262144, .i32⟩
  | 94 => ⟨S262144, .i32⟩
  | 95 => ⟨S262144, .i32⟩
  | 96 => ⟨S_, .i32⟩
  | 97 => ⟨S262144, .i32⟩
  | 98 => ⟨S262144, .i32⟩
  | 99 => ⟨S_, .i32⟩
  | 100 => ⟨S262144, .i32⟩
  | 101 => ⟨S262144, .i32⟩
  | 102 => ⟨S262144, .i32⟩
  | 103 => ⟨S262144, .i32⟩
  | 104 => ⟨S262144, .i32⟩
  | 105 => ⟨S_, .i32⟩
  | 106 => ⟨S262144, .i32⟩
  | 107 => ⟨S262144, .i32⟩
  | 108 => ⟨S_, .i32⟩
  | 109 => ⟨S262144, .i32⟩
  | 110 => ⟨S262144, .i32⟩
  | 111 => ⟨S262144, .i32⟩
  | 112 => ⟨S262144, .i32⟩
  | 113 => ⟨S262144, .i32⟩
  | 114 => ⟨S_, .i32⟩
  | 115 => ⟨S262144, .i32⟩
  | 116 => ⟨S262144, .i32⟩
  | 117 => ⟨S_, .i32⟩
  | 118 => ⟨S262144, .i32⟩
  | 119 => ⟨S262144, .i32⟩
  | 120 => ⟨S262144, .i32⟩
  | 121 => ⟨S262144, .i32⟩
  | 122 => ⟨S262144, .i32⟩
  | 123 => ⟨S262144, .i32⟩
  | 124 => ⟨S262144, .i32⟩
  | 125 => ⟨S262144, .i32⟩
  | 126 => ⟨S_, .i32⟩
  | 127 => ⟨S262144, .i32⟩
  | _ => ⟨S262144x64, .f32⟩

abbrev hbmTy0_1 (i : Nat) : BufTy := match i % 128 with
  | 0 => ⟨S262144, .i32⟩
  | 1 => ⟨S262144, .i32⟩
  | 2 => ⟨S_, .i32⟩
  | 3 => ⟨S262144, .i32⟩
  | 4 => ⟨S262144, .i32⟩
  | 5 => ⟨S_, .i32⟩
  | 6 => ⟨S262144, .i32⟩
  | 7 => ⟨S262144, .i32⟩
  | 8 => ⟨S262144, .i32⟩
  | 9 => ⟨S262144, .i32⟩
  | 10 => ⟨S262144, .i32⟩
  | 11 => ⟨S_, .i32⟩
  | 12 => ⟨S262144, .i32⟩
  | 13 => ⟨S262144, .i32⟩
  | 14 => ⟨S_, .i32⟩
  | 15 => ⟨S262144, .i32⟩
  | 16 => ⟨S262144, .i32⟩
  | 17 => ⟨S262144, .i32⟩
  | 18 => ⟨S262144, .i32⟩
  | 19 => ⟨S262144, .i32⟩
  | 20 => ⟨S_, .i32⟩
  | 21 => ⟨S262144, .i32⟩
  | 22 => ⟨S262144, .i32⟩
  | 23 => ⟨S_, .i32⟩
  | 24 => ⟨S262144, .i32⟩
  | 25 => ⟨S262144, .i32⟩
  | 26 => ⟨S262144, .i32⟩
  | 27 => ⟨S262144, .i32⟩
  | 28 => ⟨S262144, .i32⟩
  | 29 => ⟨S_, .i32⟩
  | 30 => ⟨S262144, .i32⟩
  | 31 => ⟨S262144, .i32⟩
  | 32 => ⟨S_, .i32⟩
  | 33 => ⟨S262144, .i32⟩
  | 34 => ⟨S262144, .i32⟩
  | 35 => ⟨S262144, .i32⟩
  | 36 => ⟨S262144, .i32⟩
  | 37 => ⟨S262144, .i32⟩
  | 38 => ⟨S262144, .i32⟩
  | 39 => ⟨S262144, .i32⟩
  | 40 => ⟨S262144, .i32⟩
  | 41 => ⟨S_, .i32⟩
  | 42 => ⟨S262144, .i32⟩
  | 43 => ⟨S262144, .i32⟩
  | 44 => ⟨S262144, .i32⟩
  | 45 => ⟨S_, .i32⟩
  | 46 => ⟨S262144, .i32⟩
  | 47 => ⟨S262144, .i32⟩
  | 48 => ⟨S_, .i32⟩
  | 49 => ⟨S262144, .i32⟩
  | 50 => ⟨S262144, .i32⟩
  | 51 => ⟨S262144, .i32⟩
  | 52 => ⟨S262144, .i32⟩
  | 53 => ⟨S262144, .i32⟩
  | 54 => ⟨S_, .i32⟩
  | 55 => ⟨S262144, .i32⟩
  | 56 => ⟨S262144, .i32⟩
  | 57 => ⟨S_, .i32⟩
  | 58 => ⟨S262144, .i32⟩
  | 59 => ⟨S262144, .i32⟩
  | 60 => ⟨S262144, .i32⟩
  | 61 => ⟨S262144, .i32⟩
  | 62 => ⟨S262144, .i32⟩
  | 63 => ⟨S_, .i32⟩
  | 64 => ⟨S262144, .i32⟩
  | 65 => ⟨S262144, .i32⟩
  | 66 => ⟨S_, .i32⟩
  | 67 => ⟨S262144, .i32⟩
  | 68 => ⟨S262144, .i32⟩
  | 69 => ⟨S262144, .i32⟩
  | 70 => ⟨S262144, .i32⟩
  | 71 => ⟨S262144, .i32⟩
  | 72 => ⟨S_, .i32⟩
  | 73 => ⟨S262144, .i32⟩
  | 74 => ⟨S262144, .i32⟩
  | 75 => ⟨S_, .i32⟩
  | 76 => ⟨S262144, .i32⟩
  | 77 => ⟨S262144, .i32⟩
  | 78 => ⟨S262144, .i32⟩
  | 79 => ⟨S262144, .i32⟩
  | 80 => ⟨S262144, .i32⟩
  | 81 => ⟨S262144, .i32⟩
  | 82 => ⟨S262144, .i32⟩
  | 83 => ⟨S262144, .i32⟩
  | 84 => ⟨S_, .i32⟩
  | 85 => ⟨S262144, .i32⟩
  | 86 => ⟨S262144, .i32⟩
  | 87 => ⟨S262144, .i32⟩
  | 88 => ⟨S_, .i32⟩
  | 89 => ⟨S262144, .i32⟩
  | 90 => ⟨S262144, .i32⟩
  | 91 => ⟨S_, .i32⟩
  | 92 => ⟨S262144, .i32⟩
  | 93 => ⟨S262144, .i32⟩
  | 94 => ⟨S262144, .i32⟩
  | 95 => ⟨S262144, .i32⟩
  | 96 => ⟨S262144, .i32⟩
  | 97 => ⟨S_, .i32⟩
  | 98 => ⟨S262144, .i32⟩
  | 99 => ⟨S262144, .i32⟩
  | 100 => ⟨S_, .i32⟩
  | 101 => ⟨S262144, .i32⟩
  | 102 => ⟨S262144, .i32⟩
  | 103 => ⟨S262144, .i32⟩
  | 104 => ⟨S262144, .i32⟩
  | 105 => ⟨S262144, .i32⟩
  | 106 => ⟨S_, .i32⟩
  | 107 => ⟨S262144, .i32⟩
  | 108 => ⟨S262144, .i32⟩
  | 109 => ⟨S_, .i32⟩
  | 110 => ⟨S262144, .i32⟩
  | 111 => ⟨S262144, .i32⟩
  | 112 => ⟨S262144, .i32⟩
  | 113 => ⟨S262144, .i32⟩
  | 114 => ⟨S262144, .i32⟩
  | 115 => ⟨S_, .i32⟩
  | 116 => ⟨S262144, .i32⟩
  | 117 => ⟨S262144, .i32⟩
  | 118 => ⟨S_, .i32⟩
  | 119 => ⟨S262144, .i32⟩
  | 120 => ⟨S262144, .i32⟩
  | 121 => ⟨S262144, .i32⟩
  | 122 => ⟨S262144, .i32⟩
  | 123 => ⟨S262144, .i32⟩
  | 124 => ⟨S262144, .i32⟩
  | 125 => ⟨S262144, .i32⟩
  | 126 => ⟨S262144, .i32⟩
  | 127 => ⟨S_, .i32⟩
  | _ => ⟨S262144x64, .f32⟩

abbrev hbmTy0_2 (i : Nat) : BufTy := match i % 128 with
  | 0 => ⟨S262144, .i32⟩
  | 1 => ⟨S262144, .i32⟩
  | 2 => ⟨S262144, .i32⟩
  | 3 => ⟨S_, .i32⟩
  | 4 => ⟨S262144, .i32⟩
  | 5 => ⟨S262144, .i32⟩
  | 6 => ⟨S_, .i32⟩
  | 7 => ⟨S262144, .i32⟩
  | 8 => ⟨S262144, .i32⟩
  | 9 => ⟨S262144, .i32⟩
  | 10 => ⟨S262144, .i32⟩
  | 11 => ⟨S262144, .i32⟩
  | 12 => ⟨S_, .i32⟩
  | 13 => ⟨S262144, .i32⟩
  | 14 => ⟨S262144, .i32⟩
  | 15 => ⟨S_, .i32⟩
  | 16 => ⟨S262144, .i32⟩
  | 17 => ⟨S262144, .i32⟩
  | 18 => ⟨S262144, .i32⟩
  | 19 => ⟨S262144, .i32⟩
  | 20 => ⟨S262144, .i32⟩
  | 21 => ⟨S_, .i32⟩
  | 22 => ⟨S262144, .i32⟩
  | 23 => ⟨S262144, .i32⟩
  | 24 => ⟨S_, .i32⟩
  | 25 => ⟨S262144, .i32⟩
  | 26 => ⟨S262144, .i32⟩
  | 27 => ⟨S262144, .i32⟩
  | 28 => ⟨S262144, .i32⟩
  | 29 => ⟨S262144, .i32⟩
  | 30 => ⟨S_, .i32⟩
  | 31 => ⟨S262144, .i32⟩
  | 32 => ⟨S262144, .i32⟩
  | 33 => ⟨S_, .i32⟩
  | 34 => ⟨S262144, .i32⟩
  | 35 => ⟨S262144, .i32⟩
  | 36 => ⟨S262144, .i32⟩
  | 37 => ⟨S262144, .i32⟩
  | 38 => ⟨S262144, .i32⟩
  | 39 => ⟨S262144, .i32⟩
  | 40 => ⟨S262144, .i32⟩
  | 41 => ⟨S262144, .i32⟩
  | 42 => ⟨S_, .i32⟩
  | 43 => ⟨S262144, .i32⟩
  | 44 => ⟨S262144, .i32⟩
  | 45 => ⟨S262144, .i32⟩
  | 46 => ⟨S_, .i32⟩
  | 47 => ⟨S262144, .i32⟩
  | 48 => ⟨S262144, .i32⟩
  | 49 => ⟨S_, .i32⟩
  | 50 => ⟨S262144, .i32⟩
  | 51 => ⟨S262144, .i32⟩
  | 52 => ⟨S262144, .f32⟩
  | 53 => ⟨S_, .f32⟩
  | 54 => ⟨S262144, .f32⟩
  | 55 => ⟨S262144, .f32⟩
  | 56 => ⟨S1, .f32⟩
  | 57 => ⟨S262144, .f32⟩
  | 58 => ⟨S262144, .f32⟩
  | 59 => ⟨S262144, .f32⟩
  | 60 => ⟨S262144, .f32⟩
  | 61 => ⟨S262144, .f32⟩
  | 62 => ⟨S262144, .f32⟩
  | 63 => ⟨S262144, .i1⟩
  | 64 => ⟨S262144, .i1⟩
  | 65 => ⟨S_, .f32⟩
  | 66 => ⟨S262144, .f32⟩
  | 67 => ⟨S262144, .f32⟩
  | 68 => ⟨S262144, .f32⟩
  | 69 => ⟨S_, .f32⟩
  | 70 => ⟨S262144, .f32⟩
  | 71 => ⟨S262144, .f32⟩
  | 72 => ⟨S262144, .f32⟩
  | 73 => ⟨S_, .f32⟩
  | 74 => ⟨S262144, .f32⟩
  | 75 => ⟨S262144, .f32⟩
  | 76 => ⟨S_, .f32⟩
  | 77 => ⟨S262144, .f32⟩
  | 78 => ⟨S262144, .f32⟩
  | 79 => ⟨S262144, .f32⟩
  | 80 => ⟨S_, .f32⟩
  | 81 => ⟨S262144, .f32⟩
  | 82 => ⟨S262144, .f32⟩
  | 83 => ⟨S262144, .f32⟩
  | 84 => ⟨S_, .f32⟩
  | 85 => ⟨S262144, .f32⟩
  | 86 => ⟨S262144, .f32⟩
  | 87 => ⟨S_, .i32⟩
  | 88 => ⟨S1, .i32⟩
  | 89 => ⟨S262144x64, .f32⟩
  | 90 => ⟨S_, .i32⟩
  | 91 => ⟨S1, .i32⟩
  | 92 => ⟨S262144x64, .f32⟩
  | 93 => ⟨S_, .i32⟩
  | 94 => ⟨S1, .i32⟩
  | 95 => ⟨S262144x64, .f32⟩
  | 96 => ⟨S_, .i32⟩
  | 97 => ⟨S1, .i32⟩
  | 98 => ⟨S262144x64, .f32⟩
  | 99 => ⟨S_, .f32⟩
  | 100 => ⟨S262144, .f32⟩
  | 101 => ⟨S262144, .f32⟩
  | 102 => ⟨S262144, .f32⟩
  | 103 => ⟨S262144, .f32⟩
  | 104 => ⟨S_, .f32⟩
  | 105 => ⟨S262144, .f32⟩
  | 106 => ⟨S262144, .f32⟩
  | 107 => ⟨S262144, .f32⟩
  | 108 => ⟨S262144, .f32⟩
  | 109 => ⟨S262144, .f32⟩
  | 110 => ⟨S262144, .f32⟩
  | _ => ⟨S262144x64, .f32⟩

abbrev hbmTy (i : Nat) : BufTy := match i / 128 with
  | 0 => hbmTy0_0 i
  | 1 => hbmTy0_1 i
  | 2 => hbmTy0_2 i
  | _ => ⟨S262144x64, .f32⟩

abbrev bufTy : (tb : Table) → Fin (tcTables nBuf tb) → BufTy
  | .hbm, ⟨i, _⟩ => hbmTy i
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v20 : Ref sig .tc := ⟨.hbm, 34, rfl⟩
abbrev main_cst_6 : Ref sig .tc := ⟨.hbm, 35, rfl⟩
abbrev main_call2_v0 : Ref sig .tc := ⟨.hbm, 36, rfl⟩
abbrev main_call2_v1 : Ref sig .tc := ⟨.hbm, 37, rfl⟩
abbrev main_v21 : Ref sig .tc := ⟨.hbm, 38, rfl⟩
abbrev main_cst_7 : Ref sig .tc := ⟨.hbm, 39, rfl⟩
abbrev main_cst_8 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v22 : Ref sig .tc := ⟨.hbm, 46, rfl⟩
abbrev main_cst_9 : Ref sig .tc := ⟨.hbm, 47, rfl⟩
abbrev main_v23 : Ref sig .tc := ⟨.hbm, 48, rfl⟩
abbrev main_v24 : Ref sig .tc := ⟨.hbm, 49, rfl⟩
abbrev main_c : Ref sig .tc := ⟨.hbm, 50, rfl⟩
abbrev main_c_10 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_11 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_call4_cst : Ref sig .tc := ⟨.hbm, 60, rfl⟩
abbrev main_call4_cst_0 : Ref sig .tc := ⟨.hbm, 61, rfl⟩
abbrev main_call4_call0_v0 : Ref sig .tc := ⟨.hbm, 62, rfl⟩
abbrev main_call4_call0_v1 : Ref sig .tc := ⟨.hbm, 63, rfl⟩
abbrev main_call4_call0_v2 : Ref sig .tc := ⟨.hbm, 64, rfl⟩
abbrev main_call4_call0_v3 : Ref sig .tc := ⟨.hbm, 65, rfl⟩
abbrev main_call4_call0_v4 : Ref sig .tc := ⟨.hbm, 66, rfl⟩
abbrev main_call4_call0_v5 : Ref sig .tc := ⟨.hbm, 67, rfl⟩
abbrev main_call4_call0_v6 : Ref sig .tc := ⟨.hbm, 68, rfl⟩
abbrev main_call4_call0_v7 : Ref sig .tc := ⟨.hbm, 69, rfl⟩
abbrev main_call4_call0_v8 : Ref sig .tc := ⟨.hbm, 70, rfl⟩
abbrev main_call4_call0_c : Ref sig .tc := ⟨.hbm, 71, rfl⟩
abbrev main_call4_call0_v9 : Ref sig .tc := ⟨.hbm, 72, rfl⟩
abbrev main_call4_call0_v10 : Ref sig .tc := ⟨.hbm, 73, rfl⟩
abbrev main_call4_call0_c_0 : Ref sig .tc := ⟨.hbm, 74, rfl⟩
abbrev main_call4_call0_v11 : Ref sig .tc := ⟨.hbm, 75, rfl⟩
abbrev main_call4_call0_v12 : Ref sig .tc := ⟨.hbm, 76, rfl⟩
abbrev main_call4_call0_v13 : Ref sig .tc := ⟨.hbm, 77, rfl⟩
abbrev main_call4_call0_v14 : Ref sig .tc := ⟨.hbm, 78, rfl⟩
abbrev main_call4_call0_call0_v0 : Ref sig .tc := ⟨.hbm, 79, rfl⟩
abbrev main_call4_call0_call0_c : Ref sig .tc := ⟨.hbm, 80, rfl⟩
abbrev main_call4_call0_call0_v1 : Ref sig .tc := ⟨.hbm, 81, rfl⟩
abbrev main_call4_call0_call0_v2 : Ref sig .tc := ⟨.hbm, 82, rfl⟩
abbrev main_call4_call0_call0_v3 : Ref sig .tc := ⟨.hbm, 83, rfl⟩
abbrev main_call4_call0_call0_v4 : Ref sig .tc := ⟨.hbm, 84, rfl⟩
abbrev main_call4_call0_call0_v5 : Ref sig .tc := ⟨.hbm, 85, rfl⟩
abbrev main_call4_call0_call0_v6 : Ref sig .tc := ⟨.hbm, 86, rfl⟩
abbrev main_call4_call0_call0_c_0 : Ref sig .tc := ⟨.hbm, 87, rfl⟩
abbrev main_call4_call0_call0_v7 : Ref sig .tc := ⟨.hbm, 88, rfl⟩
abbrev main_call4_call0_call0_v8 : Ref sig .tc := ⟨.hbm, 89, rfl⟩
abbrev main_call4_call0_call0_c_1 : Ref sig .tc := ⟨.hbm, 90, rfl⟩
abbrev main_call4_call0_call0_v9 : Ref sig .tc := ⟨.hbm, 91, rfl⟩
abbrev main_call4_call0_call0_v10 : Ref sig .tc := ⟨.hbm, 92, rfl⟩
abbrev main_call4_call0_call0_v11 : Ref sig .tc := ⟨.hbm, 93, rfl⟩
abbrev main_call4_call0_call0_v12 : Ref sig .tc := ⟨.hbm, 94, rfl⟩
abbrev main_call4_call0_call0_v13 : Ref sig .tc := ⟨.hbm, 95, rfl⟩
abbrev main_call4_call0_call0_c_2 : Ref sig .tc := ⟨.hbm, 96, rfl⟩
abbrev main_call4_call0_call0_v14 : Ref sig .tc := ⟨.hbm, 97, rfl⟩
abbrev main_call4_call0_call0_v15 : Ref sig .tc := ⟨.hbm, 98, rfl⟩
abbrev main_call4_call0_call0_c_3 : Ref sig .tc := ⟨.hbm, 99, rfl⟩
abbrev main_call4_call0_call0_v16 : Ref sig .tc := ⟨.hbm, 100, rfl⟩
abbrev main_call4_call0_call0_v17 : Ref sig .tc := ⟨.hbm, 101, rfl⟩
abbrev main_call4_call0_call0_v18 : Ref sig .tc := ⟨.hbm, 102, rfl⟩
abbrev main_call4_call0_call0_v19 : Ref sig .tc := ⟨.hbm, 103, rfl⟩
abbrev main_call4_call0_call0_v20 : Ref sig .tc := ⟨.hbm, 104, rfl⟩
abbrev main_call4_call0_call0_c_4 : Ref sig .tc := ⟨.hbm, 105, rfl⟩
abbrev main_call4_call0_call0_v21 : Ref sig .tc := ⟨.hbm, 106, rfl⟩
abbrev main_call4_call0_call0_v22 : Ref sig .tc := ⟨.hbm, 107, rfl⟩
abbrev main_call4_call0_call0_c_5 : Ref sig .tc := ⟨.hbm, 108, rfl⟩
abbrev main_call4_call0_call0_v23 : Ref sig .tc := ⟨.hbm, 109, rfl⟩
abbrev main_call4_call0_call0_v24 : Ref sig .tc := ⟨.hbm, 110, rfl⟩
abbrev main_call4_call0_call0_v25 : Ref sig .tc := ⟨.hbm, 111, rfl⟩
abbrev main_call4_call0_call0_v26 : Ref sig .tc := ⟨.hbm, 112, rfl⟩
abbrev main_call4_call0_call0_v27 : Ref sig .tc := ⟨.hbm, 113, rfl⟩
abbrev main_call4_call0_call0_c_6 : Ref sig .tc := ⟨.hbm, 114, rfl⟩
abbrev main_call4_call0_call0_v28 : Ref sig .tc := ⟨.hbm, 115, rfl⟩
abbrev main_call4_call0_call0_v29 : Ref sig .tc := ⟨.hbm, 116, rfl⟩
abbrev main_call4_call0_call0_c_7 : Ref sig .tc := ⟨.hbm, 117, rfl⟩
abbrev main_call4_call0_call0_v30 : Ref sig .tc := ⟨.hbm, 118, rfl⟩
abbrev main_call4_call0_call0_v31 : Ref sig .tc := ⟨.hbm, 119, rfl⟩
abbrev main_call4_call0_call0_v32 : Ref sig .tc := ⟨.hbm, 120, rfl⟩
abbrev main_call4_call0_call0_v33 : Ref sig .tc := ⟨.hbm, 121, rfl⟩
abbrev main_call4_call0_call0_v34 : Ref sig .tc := ⟨.hbm, 122, rfl⟩
abbrev main_call4_call0_call0_v35 : Ref sig .tc := ⟨.hbm, 123, rfl⟩
abbrev main_call4_call0_call0_v36 : Ref sig .tc := ⟨.hbm, 124, rfl⟩
abbrev main_call4_call0_call0_v37 : Ref sig .tc := ⟨.hbm, 125, rfl⟩
abbrev main_call4_call0_call0_c_8 : Ref sig .tc := ⟨.hbm, 126, rfl⟩
abbrev main_call4_call0_call0_v38 : Ref sig .tc := ⟨.hbm, 127, rfl⟩
abbrev main_call4_call0_call0_v39 : Ref sig .tc := ⟨.hbm, 128, rfl⟩
abbrev main_call4_call0_call0_v40 : Ref sig .tc := ⟨.hbm, 129, rfl⟩
abbrev main_call4_call0_call0_c_9 : Ref sig .tc := ⟨.hbm, 130, rfl⟩
abbrev main_call4_call0_call0_v41 : Ref sig .tc := ⟨.hbm, 131, rfl⟩
abbrev main_call4_call0_call0_v42 : Ref sig .tc := ⟨.hbm, 132, rfl⟩
abbrev main_call4_call0_call0_c_10 : Ref sig .tc := ⟨.hbm, 133, rfl⟩
abbrev main_call4_call0_call0_v43 : Ref sig .tc := ⟨.hbm, 134, rfl⟩
abbrev main_call4_call0_call0_v44 : Ref sig .tc := ⟨.hbm, 135, rfl⟩
abbrev main_call4_call0_call0_v45 : Ref sig .tc := ⟨.hbm, 136, rfl⟩
abbrev main_call4_call0_call0_v46 : Ref sig .tc := ⟨.hbm, 137, rfl⟩
abbrev main_call4_call0_call0_v47 : Ref sig .tc := ⟨.hbm, 138, rfl⟩
abbrev main_call4_call0_call0_c_11 : Ref sig .tc := ⟨.hbm, 139, rfl⟩
abbrev main_call4_call0_call0_v48 : Ref sig .tc := ⟨.hbm, 140, rfl⟩
abbrev main_call4_call0_call0_v49 : Ref sig .tc := ⟨.hbm, 141, rfl⟩
abbrev main_call4_call0_call0_c_12 : Ref sig .tc := ⟨.hbm, 142, rfl⟩
abbrev main_call4_call0_call0_v50 : Ref sig .tc := ⟨.hbm, 143, rfl⟩
abbrev main_call4_call0_call0_v51 : Ref sig .tc := ⟨.hbm, 144, rfl⟩
abbrev main_call4_call0_call0_v52 : Ref sig .tc := ⟨.hbm, 145, rfl⟩
abbrev main_call4_call0_call0_v53 : Ref sig .tc := ⟨.hbm, 146, rfl⟩
abbrev main_call4_call0_call0_v54 : Ref sig .tc := ⟨.hbm, 147, rfl⟩
abbrev main_call4_call0_call0_c_13 : Ref sig .tc := ⟨.hbm, 148, rfl⟩
abbrev main_call4_call0_call0_v55 : Ref sig .tc := ⟨.hbm, 149, rfl⟩
abbrev main_call4_call0_call0_v56 : Ref sig .tc := ⟨.hbm, 150, rfl⟩
abbrev main_call4_call0_call0_c_14 : Ref sig .tc := ⟨.hbm, 151, rfl⟩
abbrev main_call4_call0_call0_v57 : Ref sig .tc := ⟨.hbm, 152, rfl⟩
abbrev main_call4_call0_call0_v58 : Ref sig .tc := ⟨.hbm, 153, rfl⟩
abbrev main_call4_call0_call0_v59 : Ref sig .tc := ⟨.hbm, 154, rfl⟩
abbrev main_call4_call0_call0_v60 : Ref sig .tc := ⟨.hbm, 155, rfl⟩
abbrev main_call4_call0_call0_v61 : Ref sig .tc := ⟨.hbm, 156, rfl⟩
abbrev main_call4_call0_call0_c_15 : Ref sig .tc := ⟨.hbm, 157, rfl⟩
abbrev main_call4_call0_call0_v62 : Ref sig .tc := ⟨.hbm, 158, rfl⟩
abbrev main_call4_call0_call0_v63 : Ref sig .tc := ⟨.hbm, 159, rfl⟩
abbrev main_call4_call0_call0_c_16 : Ref sig .tc := ⟨.hbm, 160, rfl⟩
abbrev main_call4_call0_call0_v64 : Ref sig .tc := ⟨.hbm, 161, rfl⟩
abbrev main_call4_call0_call0_v65 : Ref sig .tc := ⟨.hbm, 162, rfl⟩
abbrev main_call4_call0_call0_v66 : Ref sig .tc := ⟨.hbm, 163, rfl⟩
abbrev main_call4_call0_call0_v67 : Ref sig .tc := ⟨.hbm, 164, rfl⟩
abbrev main_call4_call0_call0_v68 : Ref sig .tc := ⟨.hbm, 165, rfl⟩
abbrev main_call4_call0_call0_v69 : Ref sig .tc := ⟨.hbm, 166, rfl⟩
abbrev main_call4_call0_call0_v70 : Ref sig .tc := ⟨.hbm, 167, rfl⟩
abbrev main_call4_call0_call0_v71 : Ref sig .tc := ⟨.hbm, 168, rfl⟩
abbrev main_call4_call0_call0_c_17 : Ref sig .tc := ⟨.hbm, 169, rfl⟩
abbrev main_call4_call0_call0_v72 : Ref sig .tc := ⟨.hbm, 170, rfl⟩
abbrev main_call4_call0_call0_v73 : Ref sig .tc := ⟨.hbm, 171, rfl⟩
abbrev main_call4_call0_call0_v74 : Ref sig .tc := ⟨.hbm, 172, rfl⟩
abbrev main_call4_call0_call0_c_18 : Ref sig .tc := ⟨.hbm, 173, rfl⟩
abbrev main_call4_call0_call0_v75 : Ref sig .tc := ⟨.hbm, 174, rfl⟩
abbrev main_call4_call0_call0_v76 : Ref sig .tc := ⟨.hbm, 175, rfl⟩
abbrev main_call4_call0_call0_c_19 : Ref sig .tc := ⟨.hbm, 176, rfl⟩
abbrev main_call4_call0_call0_v77 : Ref sig .tc := ⟨.hbm, 177, rfl⟩
abbrev main_call4_call0_call0_v78 : Ref sig .tc := ⟨.hbm, 178, rfl⟩
abbrev main_call4_call0_call0_v79 : Ref sig .tc := ⟨.hbm, 179, rfl⟩
abbrev main_call4_call0_call0_v80 : Ref sig .tc := ⟨.hbm, 180, rfl⟩
abbrev main_call4_call0_call0_v81 : Ref sig .tc := ⟨.hbm, 181, rfl⟩
abbrev main_call4_call0_call0_c_20 : Ref sig .tc := ⟨.hbm, 182, rfl⟩
abbrev main_call4_call0_call0_v82 : Ref sig .tc := ⟨.hbm, 183, rfl⟩
abbrev main_call4_call0_call0_v83 : Ref sig .tc := ⟨.hbm, 184, rfl⟩
abbrev main_call4_call0_call0_c_21 : Ref sig .tc := ⟨.hbm, 185, rfl⟩
abbrev main_call4_call0_call0_v84 : Ref sig .tc := ⟨.hbm, 186, rfl⟩
abbrev main_call4_call0_call0_v85 : Ref sig .tc := ⟨.hbm, 187, rfl⟩
abbrev main_call4_call0_call0_v86 : Ref sig .tc := ⟨.hbm, 188, rfl⟩
abbrev main_call4_call0_call0_v87 : Ref sig .tc := ⟨.hbm, 189, rfl⟩
abbrev main_call4_call0_call0_v88 : Ref sig .tc := ⟨.hbm, 190, rfl⟩
abbrev main_call4_call0_call0_c_22 : Ref sig .tc := ⟨.hbm, 191, rfl⟩
abbrev main_call4_call0_call0_v89 : Ref sig .tc := ⟨.hbm, 192, rfl⟩
abbrev main_call4_call0_call0_v90 : Ref sig .tc := ⟨.hbm, 193, rfl⟩
abbrev main_call4_call0_call0_c_23 : Ref sig .tc := ⟨.hbm, 194, rfl⟩
abbrev main_call4_call0_call0_v91 : Ref sig .tc := ⟨.hbm, 195, rfl⟩
abbrev main_call4_call0_call0_v92 : Ref sig .tc := ⟨.hbm, 196, rfl⟩
abbrev main_call4_call0_call0_v93 : Ref sig .tc := ⟨.hbm, 197, rfl⟩
abbrev main_call4_call0_call0_v94 : Ref sig .tc := ⟨.hbm, 198, rfl⟩
abbrev main_call4_call0_call0_v95 : Ref sig .tc := ⟨.hbm, 199, rfl⟩
abbrev main_call4_call0_call0_c_24 : Ref sig .tc := ⟨.hbm, 200, rfl⟩
abbrev main_call4_call0_call0_v96 : Ref sig .tc := ⟨.hbm, 201, rfl⟩
abbrev main_call4_call0_call0_v97 : Ref sig .tc := ⟨.hbm, 202, rfl⟩
abbrev main_call4_call0_call0_c_25 : Ref sig .tc := ⟨.hbm, 203, rfl⟩
abbrev main_call4_call0_call0_v98 : Ref sig .tc := ⟨.hbm, 204, rfl⟩
abbrev main_call4_call0_call0_v99 : Ref sig .tc := ⟨.hbm, 205, rfl⟩
abbrev main_call4_call0_call0_v100 : Ref sig .tc := ⟨.hbm, 206, rfl⟩
abbrev main_call4_call0_call0_v101 : Ref sig .tc := ⟨.hbm, 207, rfl⟩
abbrev main_call4_call0_call0_v102 : Ref sig .tc := ⟨.hbm, 208, rfl⟩
abbrev main_call4_call0_call0_v103 : Ref sig .tc := ⟨.hbm, 209, rfl⟩
abbrev main_call4_call0_call0_v104 : Ref sig .tc := ⟨.hbm, 210, rfl⟩
abbrev main_call4_call0_call0_v105 : Ref sig .tc := ⟨.hbm, 211, rfl⟩
abbrev main_call4_call0_call0_c_26 : Ref sig .tc := ⟨.hbm, 212, rfl⟩
abbrev main_call4_call0_call0_v106 : Ref sig .tc := ⟨.hbm, 213, rfl⟩
abbrev main_call4_call0_call0_v107 : Ref sig .tc := ⟨.hbm, 214, rfl⟩
abbrev main_call4_call0_call0_v108 : Ref sig .tc := ⟨.hbm, 215, rfl⟩
abbrev main_call4_call0_call0_c_27 : Ref sig .tc := ⟨.hbm, 216, rfl⟩
abbrev main_call4_call0_call0_v109 : Ref sig .tc := ⟨.hbm, 217, rfl⟩
abbrev main_call4_call0_call0_v110 : Ref sig .tc := ⟨.hbm, 218, rfl⟩
abbrev main_call4_call0_call0_c_28 : Ref sig .tc := ⟨.hbm, 219, rfl⟩
abbrev main_call4_call0_call0_v111 : Ref sig .tc := ⟨.hbm, 220, rfl⟩
abbrev main_call4_call0_call0_v112 : Ref sig .tc := ⟨.hbm, 221, rfl⟩
abbrev main_call4_call0_call0_v113 : Ref sig .tc := ⟨.hbm, 222, rfl⟩
abbrev main_call4_call0_call0_v114 : Ref sig .tc := ⟨.hbm, 223, rfl⟩
abbrev main_call4_call0_call0_v115 : Ref sig .tc := ⟨.hbm, 224, rfl⟩
abbrev main_call4_call0_call0_c_29 : Ref sig .tc := ⟨.hbm, 225, rfl⟩
abbrev main_call4_call0_call0_v116 : Ref sig .tc := ⟨.hbm, 226, rfl⟩
abbrev main_call4_call0_call0_v117 : Ref sig .tc := ⟨.hbm, 227, rfl⟩
abbrev main_call4_call0_call0_c_30 : Ref sig .tc := ⟨.hbm, 228, rfl⟩
abbrev main_call4_call0_call0_v118 : Ref sig .tc := ⟨.hbm, 229, rfl⟩
abbrev main_call4_call0_call0_v119 : Ref sig .tc := ⟨.hbm, 230, rfl⟩
abbrev main_call4_call0_call0_v120 : Ref sig .tc := ⟨.hbm, 231, rfl⟩
abbrev main_call4_call0_call0_v121 : Ref sig .tc := ⟨.hbm, 232, rfl⟩
abbrev main_call4_call0_call0_v122 : Ref sig .tc := ⟨.hbm, 233, rfl⟩
abbrev main_call4_call0_call0_c_31 : Ref sig .tc := ⟨.hbm, 234, rfl⟩
abbrev main_call4_call0_call0_v123 : Ref sig .tc := ⟨.hbm, 235, rfl⟩
abbrev main_call4_call0_call0_v124 : Ref sig .tc := ⟨.hbm, 236, rfl⟩
abbrev main_call4_call0_call0_c_32 : Ref sig .tc := ⟨.hbm, 237, rfl⟩
abbrev main_call4_call0_call0_v125 : Ref sig .tc := ⟨.hbm, 238, rfl⟩
abbrev main_call4_call0_call0_v126 : Ref sig .tc := ⟨.hbm, 239, rfl⟩
abbrev main_call4_call0_call0_v127 : Ref sig .tc := ⟨.hbm, 240, rfl⟩
abbrev main_call4_call0_call0_v128 : Ref sig .tc := ⟨.hbm, 241, rfl⟩
abbrev main_call4_call0_call0_v129 : Ref sig .tc := ⟨.hbm, 242, rfl⟩
abbrev main_call4_call0_call0_c_33 : Ref sig .tc := ⟨.hbm, 243, rfl⟩
abbrev main_call4_call0_call0_v130 : Ref sig .tc := ⟨.hbm, 244, rfl⟩
abbrev main_call4_call0_call0_v131 : Ref sig .tc := ⟨.hbm, 245, rfl⟩
abbrev main_call4_call0_call0_c_34 : Ref sig .tc := ⟨.hbm, 246, rfl⟩
abbrev main_call4_call0_call0_v132 : Ref sig .tc := ⟨.hbm, 247, rfl⟩
abbrev main_call4_call0_call0_v133 : Ref sig .tc := ⟨.hbm, 248, rfl⟩
abbrev main_call4_call0_call0_v134 : Ref sig .tc := ⟨.hbm, 249, rfl⟩
abbrev main_call4_call0_call0_v135 : Ref sig .tc := ⟨.hbm, 250, rfl⟩
abbrev main_call4_call0_call0_v136 : Ref sig .tc := ⟨.hbm, 251, rfl⟩
abbrev main_call4_call0_call0_v137 : Ref sig .tc := ⟨.hbm, 252, rfl⟩
abbrev main_call4_call0_call0_v138 : Ref sig .tc := ⟨.hbm, 253, rfl⟩
abbrev main_call4_call0_call0_v139 : Ref sig .tc := ⟨.hbm, 254, rfl⟩
abbrev main_call4_call0_call0_c_35 : Ref sig .tc := ⟨.hbm, 255, rfl⟩
abbrev main_call4_call0_call0_v140 : Ref sig .tc := ⟨.hbm, 256, rfl⟩
abbrev main_call4_call0_call0_v141 : Ref sig .tc := ⟨.hbm, 257, rfl⟩
abbrev main_call4_call0_call0_v142 : Ref sig .tc := ⟨.hbm, 258, rfl⟩
abbrev main_call4_call0_call0_c_36 : Ref sig .tc := ⟨.hbm, 259, rfl⟩
abbrev main_call4_call0_call0_v143 : Ref sig .tc := ⟨.hbm, 260, rfl⟩
abbrev main_call4_call0_call0_v144 : Ref sig .tc := ⟨.hbm, 261, rfl⟩
abbrev main_call4_call0_call0_c_37 : Ref sig .tc := ⟨.hbm, 262, rfl⟩
abbrev main_call4_call0_call0_v145 : Ref sig .tc := ⟨.hbm, 263, rfl⟩
abbrev main_call4_call0_call0_v146 : Ref sig .tc := ⟨.hbm, 264, rfl⟩
abbrev main_call4_call0_call0_v147 : Ref sig .tc := ⟨.hbm, 265, rfl⟩
abbrev main_call4_call0_call0_v148 : Ref sig .tc := ⟨.hbm, 266, rfl⟩
abbrev main_call4_call0_call0_v149 : Ref sig .tc := ⟨.hbm, 267, rfl⟩
abbrev main_call4_call0_call0_c_38 : Ref sig .tc := ⟨.hbm, 268, rfl⟩
abbrev main_call4_call0_call0_v150 : Ref sig .tc := ⟨.hbm, 269, rfl⟩
abbrev main_call4_call0_call0_v151 : Ref sig .tc := ⟨.hbm, 270, rfl⟩
abbrev main_call4_call0_call0_c_39 : Ref sig .tc := ⟨.hbm, 271, rfl⟩
abbrev main_call4_call0_call0_v152 : Ref sig .tc := ⟨.hbm, 272, rfl⟩
abbrev main_call4_call0_call0_v153 : Ref sig .tc := ⟨.hbm, 273, rfl⟩
abbrev main_call4_call0_call0_v154 : Ref sig .tc := ⟨.hbm, 274, rfl⟩
abbrev main_call4_call0_call0_v155 : Ref sig .tc := ⟨.hbm, 275, rfl⟩
abbrev main_call4_call0_call0_v156 : Ref sig .tc := ⟨.hbm, 276, rfl⟩
abbrev main_call4_call0_call0_c_40 : Ref sig .tc := ⟨.hbm, 277, rfl⟩
abbrev main_call4_call0_call0_v157 : Ref sig .tc := ⟨.hbm, 278, rfl⟩
abbrev main_call4_call0_call0_v158 : Ref sig .tc := ⟨.hbm, 279, rfl⟩
abbrev main_call4_call0_call0_c_41 : Ref sig .tc := ⟨.hbm, 280, rfl⟩
abbrev main_call4_call0_call0_v159 : Ref sig .tc := ⟨.hbm, 281, rfl⟩
abbrev main_call4_call0_call0_v160 : Ref sig .tc := ⟨.hbm, 282, rfl⟩
abbrev main_call4_call0_call0_v161 : Ref sig .tc := ⟨.hbm, 283, rfl⟩
abbrev main_call4_call0_call0_v162 : Ref sig .tc := ⟨.hbm, 284, rfl⟩
abbrev main_call4_call0_call0_v163 : Ref sig .tc := ⟨.hbm, 285, rfl⟩
abbrev main_call4_call0_call0_c_42 : Ref sig .tc := ⟨.hbm, 286, rfl⟩
abbrev main_call4_call0_call0_v164 : Ref sig .tc := ⟨.hbm, 287, rfl⟩
abbrev main_call4_call0_call0_v165 : Ref sig .tc := ⟨.hbm, 288, rfl⟩
abbrev main_call4_call0_call0_c_43 : Ref sig .tc := ⟨.hbm, 289, rfl⟩
abbrev main_call4_call0_call0_v166 : Ref sig .tc := ⟨.hbm, 290, rfl⟩
abbrev main_call4_call0_call0_v167 : Ref sig .tc := ⟨.hbm, 291, rfl⟩
abbrev main_call4_call0_call0_v168 : Ref sig .tc := ⟨.hbm, 292, rfl⟩
abbrev main_call4_call0_call0_v169 : Ref sig .tc := ⟨.hbm, 293, rfl⟩
abbrev main_call4_call0_call0_v170 : Ref sig .tc := ⟨.hbm, 294, rfl⟩
abbrev main_call4_call0_v15_0 : Ref sig .tc := ⟨.hbm, 295, rfl⟩
abbrev main_call4_call0_call0_v172 : Ref sig .tc := ⟨.hbm, 296, rfl⟩
abbrev main_call4_call0_call0_v173 : Ref sig .tc := ⟨.hbm, 297, rfl⟩
abbrev main_call4_call0_call0_c_44 : Ref sig .tc := ⟨.hbm, 298, rfl⟩
abbrev main_call4_call0_call0_v174 : Ref sig .tc := ⟨.hbm, 299, rfl⟩
abbrev main_call4_call0_v15_1 : Ref sig .tc := ⟨.hbm, 300, rfl⟩
abbrev main_call4_call0_v16 : Ref sig .tc := ⟨.hbm, 301, rfl⟩
abbrev main_call4_call0_c_1 : Ref sig .tc := ⟨.hbm, 302, rfl⟩
abbrev main_call4_call0_v17 : Ref sig .tc := ⟨.hbm, 303, rfl⟩
abbrev main_call4_call0_v18 : Ref sig .tc := ⟨.hbm, 304, rfl⟩
abbrev main_call4_call0_c_2 : Ref sig .tc := ⟨.hbm, 305, rfl⟩
abbrev main_call4_call0_v19 : Ref sig .tc := ⟨.hbm, 306, rfl⟩
abbrev main_call4_call0_v20 : Ref sig .tc := ⟨.hbm, 307, rfl⟩
abbrev main_call4_call0_v21 : Ref sig .tc := ⟨.hbm, 308, rfl⟩
abbrev main_call4_call0_cst : Ref sig .tc := ⟨.hbm, 309, rfl⟩
abbrev main_call4_call0_v22 : Ref sig .tc := ⟨.hbm, 310, rfl⟩
abbrev main_call4_call0_v23 : Ref sig .tc := ⟨.hbm, 311, rfl⟩
abbrev main_call4_call0_v24 : Ref sig .tc := ⟨.hbm, 312, rfl⟩
abbrev main_call4_call0_v25 : Ref sig .tc := ⟨.hbm, 313, rfl⟩
abbrev main_call4_call0_v26 : Ref sig .tc := ⟨.hbm, 314, rfl⟩
abbrev main_call4_call0_v27 : Ref sig .tc := ⟨.hbm, 315, rfl⟩
abbrev main_call4_call0_v28 : Ref sig .tc := ⟨.hbm, 316, rfl⟩
abbrev main_call4_call0_v29 : Ref sig .tc := ⟨.hbm, 317, rfl⟩
abbrev main_call4_v0 : Ref sig .tc := ⟨.hbm, 318, rfl⟩
abbrev main_v32 : Ref sig .tc := ⟨.hbm, 319, rfl⟩
abbrev main_v33 : Ref sig .tc := ⟨.hbm, 320, rfl⟩
abbrev main_cst_12 : Ref sig .tc := ⟨.hbm, 321, rfl⟩
abbrev main_v34 : Ref sig .tc := ⟨.hbm, 322, rfl⟩
abbrev main_v35 : Ref sig .tc := ⟨.hbm, 323, rfl⟩
abbrev main_v36 : Ref sig .tc := ⟨.hbm, 324, rfl⟩
abbrev main_cst_13 : Ref sig .tc := ⟨.hbm, 325, rfl⟩
abbrev main_v37 : Ref sig .tc := ⟨.hbm, 326, rfl⟩
abbrev main_v38 : Ref sig .tc := ⟨.hbm, 327, rfl⟩
abbrev main_v39 : Ref sig .tc := ⟨.hbm, 328, rfl⟩
abbrev main_cst_14 : Ref sig .tc := ⟨.hbm, 329, rfl⟩
abbrev main_v40 : Ref sig .tc := ⟨.hbm, 330, rfl⟩
abbrev main_v41 : Ref sig .tc := ⟨.hbm, 331, rfl⟩
abbrev main_cst_15 : Ref sig .tc := ⟨.hbm, 332, rfl⟩
abbrev main_v42 : Ref sig .tc := ⟨.hbm, 333, rfl⟩
abbrev main_v43 : Ref sig .tc := ⟨.hbm, 334, rfl⟩
abbrev main_v44 : Ref sig .tc := ⟨.hbm, 335, rfl⟩
abbrev main_cst_16 : Ref sig .tc := ⟨.hbm, 336, rfl⟩
abbrev main_v45 : Ref sig .tc := ⟨.hbm, 337, rfl⟩
abbrev main_v46 : Ref sig .tc := ⟨.hbm, 338, rfl⟩
abbrev main_v47 : Ref sig .tc := ⟨.hbm, 339, rfl⟩
abbrev main_cst_17 : Ref sig .tc := ⟨.hbm, 340, rfl⟩
abbrev main_v48 : Ref sig .tc := ⟨.hbm, 341, rfl⟩
abbrev main_v49 : Ref sig .tc := ⟨.hbm, 342, rfl⟩
abbrev main_c_18 : Ref sig .tc := ⟨.hbm, 343, rfl⟩
abbrev main_v50 : Ref sig .tc := ⟨.hbm, 344, rfl⟩
abbrev main_v51 : Ref sig .tc := ⟨.hbm, 345, rfl⟩
abbrev main_c_19 : Ref sig .tc := ⟨.hbm, 346, rfl⟩
abbrev main_v52 : Ref sig .tc := ⟨.hbm, 347, rfl⟩
abbrev main_v53 : Ref sig .tc := ⟨.hbm, 348, rfl⟩
abbrev main_c_20 : Ref sig .tc := ⟨.hbm, 349, rfl⟩
abbrev main_v54 : Ref sig .tc := ⟨.hbm, 350, rfl⟩
abbrev main_v55 : Ref sig .tc := ⟨.hbm, 351, rfl⟩
abbrev main_c_21 : Ref sig .tc := ⟨.hbm, 352, rfl⟩
abbrev main_v56 : Ref sig .tc := ⟨.hbm, 353, rfl⟩
abbrev main_v57 : Ref sig .tc := ⟨.hbm, 354, rfl⟩
abbrev main_cst_22 : Ref sig .tc := ⟨.hbm, 355, rfl⟩
abbrev main_v58 : Ref sig .tc := ⟨.hbm, 356, rfl⟩
abbrev main_v59 : Ref sig .tc := ⟨.hbm, 357, rfl⟩
abbrev main_v60 : Ref sig .tc := ⟨.hbm, 358, rfl⟩
abbrev main_v61 : Ref sig .tc := ⟨.hbm, 359, rfl⟩
abbrev main_cst_23 : Ref sig .tc := ⟨.hbm, 360, rfl⟩
abbrev main_v62 : Ref sig .tc := ⟨.hbm, 361, rfl⟩
abbrev main_v63 : Ref sig .tc := ⟨.hbm, 362, rfl⟩
abbrev main_v64 : Ref sig .tc := ⟨.hbm, 363, rfl⟩
abbrev main_v65 : Ref sig .tc := ⟨.hbm, 364, rfl⟩
abbrev main_v66 : Ref sig .tc := ⟨.hbm, 365, rfl⟩
abbrev main_v67 : Ref sig .tc := ⟨.hbm, 366, rfl⟩

abbrev nD : Nat := 1
abbrev τ : Topo := Topo.v7x

variable {F : FTy → Type} [FloatOps F]
-- ==== Proof.Words.lean ====
/- The twenty-round block cipher both programs run, on one pair of 32-bit words. -/
module

public import Idealize.ShloMosaic.PureOps

@[expose] public section

namespace Cert.Words

/-- One round on a pair of words: the sum, and the second word rotated left by `r` (`r'` is 32 less `r`) and combined with
    the sum by exclusive or. -/
def mix (r r' : BitVec 32) (p : BitVec 32 × BitVec 32) : BitVec 32 × BitVec 32 :=
  (p.1 + p.2, (p.1 + p.2) ^^^ (p.2 <<< r ||| p.2 >>> r'))

/-- Two key words and the block's number added to the pair. -/
def inject (a b c : BitVec 32) (p : BitVec 32 × BitVec 32) : BitVec 32 × BitVec 32 := (p.1 + a, p.2 + b + c)

/-- Four rounds at the first set of rotations. -/
def even (p : BitVec 32 × BitVec 32) : BitVec 32 × BitVec 32 := mix 6 26 (mix 26 6 (mix 15 17 (mix 13 19 p)))

/-- Four rounds at the second set. -/
def odd (p : BitVec 32 × BitVec 32) : BitVec 32 × BitVec 32 := mix 24 8 (mix 16 16 (mix 29 3 (mix 17 15 p)))

/-- The cipher under the three key words `k₀`, `k₁`, `k₂`, from the pair the key is already added to. -/
def cipher (k₀ k₁ k₂ : BitVec 32) (p : BitVec 32 × BitVec 32) : BitVec 32 × BitVec 32 :=
  inject k₂ k₀ 5 (even (inject k₁ k₂ 4 (odd (inject k₀ k₁ 3 (even (inject k₂ k₀ 2 (odd (inject k₁ k₂ 1 (even p)))))))))

/-- The third key word of the key `(0, 42)`. -/
abbrev key₂ : BitVec 32 := 466689008#32

/-- The random word of row `n`: the two words of the cipher of `(0, n)` under the key `(0, 42)`, combined. -/
def bits (n : BitVec 32) : BitVec 32 :=
  (cipher 0#32 42#32 key₂ (0#32, n + 42#32)).1 ^^^ (cipher 0#32 42#32 key₂ (0#32, n + 42#32)).2

/-- The word of a binary32 number in [1, 2): the top 23 bits of the random word under the exponent of 1. -/
def draw (n : BitVec 32) : BitVec 32 := bits n >>> 9#32 ||| 1065353216#32

end Cert.Words
-- ==== Proof.Row.lean ====
/- What the programs compute for one row of the batch, on extended reals: from the row's centre `a`, half-width `d`, weight
   `w` and number `n`. -/
module

public import proofs.«01_k».proof.Proof.Words
public import Idealize.ShloMosaic.PureOps.Ideal
public import Idealize.ShloMosaic.Lib.ValueIdxCore

@[expose] public section

noncomputable section

namespace Cert.Row

open Idealize.ShloMosaic

/-- An extended real, as the value of a 32-bit float. -/
abbrev R : Type := Ideal .f32

/-- The number a 32-bit word denotes. -/
abbrev lit (w : BitVec 32) : R := FloatOps.ofBits (F := Ideal) .f32 w

/-- The lower bound of the row's interval. -/
def lower (a d : R) : R := FloatOps.subf a d

/-- The upper bound of the row's interval. -/
def upper (a d : R) : R := FloatOps.addf a d

/-- The divisor of the probability: the interval's width where the interval has 0 inside, 1 elsewhere. -/
def width (l u : R) : R :=
  Scalar.select (FloatOps.cmpf .ogt u (lit 0x00000000#32) &&& FloatOps.cmpf .ole l (lit 0x00000000#32))
    (FloatOps.subf u l) (lit 0x3F800000#32)

/-- The probability of the left part, before it is cut off. -/
def share (l u : R) : R :=
  Scalar.select (FloatOps.cmpf .ole u (lit 0x00000000#32)) (lit 0x3F800000#32)
    (Scalar.select (FloatOps.cmpf .ogt l (lit 0x00000000#32)) (lit 0x00000000#32)
      (FloatOps.divf (FloatOps.subf (lit 0x00000000#32) l) (width l u)))

/-- The probability of the left part: `share` cut off below at 0 and above at 1. -/
def prob (l u : R) : R :=
  FloatOps.minimumf (lit 0x3F800000#32) (FloatOps.maximumf (lit 0x00000000#32) (share l u))

/-- The probability of the right part. -/
def rest (l u : R) : R := FloatOps.subf (lit 0x3F800000#32) (prob l u)

/-- The weight `w` plus the logarithm of the probability `p`, cut off below. -/
def mass (w p : R) : R := FloatOps.addf w (FloatOps.log (FloatOps.maximumf p (lit 0x2B8CBCCC#32)))

/-- The random number of row `n`, in [0, 1). -/
def random (n : BitVec 32) : R := FloatOps.subf (lit (Words.draw n)) (lit 0x3F800000#32)

/-- The random bit of row `n`: whether its random number is below the probability `p`. -/
def coin (n : BitVec 32) (p : R) : BitVec 1 := FloatOps.cmpf .olt (random n) p

/-- The sum of the left part's bounds. -/
def leftSum (l u : R) : R := FloatOps.addf l (FloatOps.minimumf u (lit 0x00000000#32))

/-- The width of the left part. -/
def leftGap (l u : R) : R := FloatOps.subf (FloatOps.minimumf u (lit 0x00000000#32)) l

/-- The sum of the right part's bounds. -/
def rightSum (l u : R) : R := FloatOps.addf (FloatOps.maximumf l (lit 0x00000000#32)) u

/-- The width of the right part. -/
def rightGap (l u : R) : R := FloatOps.subf u (FloatOps.maximumf l (lit 0x00000000#32))

/-- Half of a number. -/
def half (x : R) : R := FloatOps.divf x (lit 0x40000000#32)

/-- A bit as the number 0 or 1. -/
def ofBit (b : BitVec 1) : R := FloatOps.uitofp (F := Ideal) .f32 b

end Cert.Row
-- ==== Proof.KerWords.lean ====
/- The random words of the kernel: at every element of a block, the words its cipher's operations compute are those of
   `Words.bits`. -/
module

public import proofs.«01_k».proof.Proof.Gen.KernelIdeal.Skeleton
public import proofs.«01_k».proof.Proof.Row

@[expose] public section

noncomputable section

namespace Cert.KerWords

open Cert.KernelIdeal Cert.KernelIdeal.Gen Cert.Words
open Idealize.ShloMosaic

/-- A block of words. -/
abbrev Block : Type := IVec S128x128 32

/-- Elements `i` of two blocks are the pair `p`. -/
def PairAt (X Y : Block) (i : S128x128.Idx) (p : BitVec 32 × BitVec 32) : Prop := X i = p.1 ∧ Y i = p.2

variable {X Y : Block} {i : S128x128.Idx} {p : BitVec 32 × BitVec 32}

theorem shli_at {r : BitVec 32} (hr : r.toNat < 32) (h : Y i = p.2) : shli Y (broadcast S128x128 r) i = p.2 <<< r :=
  (if_pos hr).trans (congrArg (· <<< r) h)

theorem shrui_at {r : BitVec 32} (hr : r.toNat < 32) (h : Y i = p.2) : shrui Y (broadcast S128x128 r) i = p.2 >>> r :=
  (if_pos hr).trans (congrArg (· >>> r) h)

/-- A round's operations take the pair `p` to `mix r r' p`. -/
theorem round_at {r r' : BitVec 32} (hr : r.toNat < 32) (hr' : r'.toNat < 32) (h : PairAt X Y i p) :
    PairAt (addi X Y) (xori (addi X Y) (ori (shli Y (broadcast S128x128 r)) (shrui Y (broadcast S128x128 r')))) i (mix r r' p) :=
  have hs : addi X Y i = p.1 + p.2 := congrArg₂ (· + ·) h.1 h.2
  ⟨hs, congrArg₂ (· ^^^ ·) hs (congrArg₂ (· ||| ·) (shli_at hr h.2) (shrui_at hr' h.2))⟩

/-- The operations that add key words take the pair `p` to `inject a b c p`. -/
theorem inject_at (a b c : BitVec 32) (h : PairAt X Y i p) :
    PairAt (addi X (broadcast S128x128 a)) (addi (addi Y (broadcast S128x128 b)) (broadcast S128x128 c)) i (inject a b c p) :=
  ⟨congrArg (· + a) h.1, congrArg (· + b + c) h.2⟩

/-- The bit the kernel draws from a pair of words: the number of the two words combined, less 1, compared with the
    probability. -/
theorem draw_at (Q : FVec Ideal S128x128 .f32) (h : PairAt X Y i p) :
    cmpf (F := Ideal) .olt
        (subf (bitcastToFloat .f32 (ori (shrui (xori X Y) (broadcast S128x128 9#32)) (broadcast S128x128 1065353216#32)))
          (broadcast S128x128 (Row.lit 0x3F800000#32))) Q i
      = FloatOps.cmpf .olt
          (FloatOps.subf (Row.lit ((p.1 ^^^ p.2) >>> 9#32 ||| 1065353216#32)) (Row.lit 0x3F800000#32)) (Q i) := by
  have hx : xori X Y i = p.1 ^^^ p.2 := congrArg₂ (· ^^^ ·) h.1 h.2
  have hs : shrui (xori X Y) (broadcast S128x128 9#32) i = (p.1 ^^^ p.2) >>> 9#32 := shrui_at (p := (0#32, _)) (by decide) hx
  exact congrArg (fun w => FloatOps.cmpf .olt (FloatOps.subf (Row.lit (w ||| 1065353216#32)) (Row.lit 0x3F800000#32)) (Q i)) hs

variable {N : Block} {n : BitVec 32}

/-- The first five rounds, from the block `N` of the rows' numbers. -/
theorem first_at (k : BitVec 32) (h : N i = n) :
    PairAt (k0_pay31 N k 0#32) (k0_pay32 N k 0#32) i
      (mix 17 15 (inject 42#32 k 1 (even (0#32, n + 42#32)))) := by
  have h0 : PairAt (addi (broadcast S128x128 0#32) (broadcast S128x128 0#32)) (k0_pay22 N) i (0#32, n + 42#32) :=
    ⟨show 0#32 + 0#32 = 0#32 by decide, congrArg (· + 42#32) h⟩
  have h1 : PairAt (k0_pay23 N 0#32) (k0_pay24 N 0#32) i _ := round_at (r := 13) (r' := 19) (by decide) (by decide) h0
  have h2 : PairAt (k0_pay25 N 0#32) (k0_pay26 N 0#32) i _ := round_at (r := 15) (r' := 17) (by decide) (by decide) h1
  have h3 : PairAt (k0_pay27 N 0#32) (k0_pay28 N 0#32) i _ := round_at (r := 26) (r' := 6) (by decide) (by decide) h2
  have h4 := inject_at 42#32 k 1#32 (round_at (r := 6) (r' := 26) (by decide) (by decide) h3)
  exact round_at (r := 17) (r' := 15) (by decide) (by decide) h4

/-- The next rounds, through the tenth's sum, and the two shifted words the eleventh combines. -/
theorem second_at (k : BitVec 32) (h : PairAt X Y i p) :
    PairAt (k0_pay43 k X Y) (ori (k0_pay44 k X Y) (k0_pay45 k X Y)) i
      (let q := mix 15 17 (mix 13 19 (inject k 0#32 2 (mix 24 8 (mix 16 16 (mix 29 3 p)))))
       (q.1 + q.2, q.2 <<< 26#32 ||| q.2 >>> 6#32)) := by
  have h1 : PairAt (k0_pay33 X Y) (k0_pay34 X Y) i _ := round_at (r := 29) (r' := 3) (by decide) (by decide) h
  have h2 : PairAt (k0_pay35 X Y) (k0_pay36 X Y) i _ := round_at (r := 16) (r' := 16) (by decide) (by decide) h1
  have h3 := inject_at k 0#32 2#32 (round_at (r := 24) (r' := 8) (by decide) (by decide) h2)
  have h4 : PairAt (k0_pay39 k X Y) (k0_pay40 k X Y) i _ := round_at (r := 13) (r' := 19) (by decide) (by decide) h3
  have h5 : PairAt (k0_pay41 k X Y) (k0_pay42 k X Y) i _ := round_at (r := 15) (r' := 17) (by decide) (by decide) h4
  exact ⟨congrArg₂ (· + ·) h5.1 h5.2, congrArg₂ (· ||| ·) (shli_at (by decide) h5.2) (shrui_at (by decide) h5.2)⟩

/-- The rounds from there through the sixteenth, and the first key word added. -/
theorem third_at {U V : Block} {q : BitVec 32 × BitVec 32} (h : PairAt X (ori U V) i (q.1 + q.2, q.2 <<< 26#32 ||| q.2 >>> 6#32)) :
    PairAt (k0_pay57 X U V) (k0_pay56 X U V) i
      (let s := odd (inject 0#32 42#32 3 (mix 6 26 (mix 26 6 q)))
       (s.1 + 42#32, s.2)) := by
  have h0 : PairAt X (k0_pay46 X U V) i (mix 26 6 q) := ⟨h.1, congrArg₂ (· ^^^ ·) h.1 h.2⟩
  have h1 := inject_at 0#32 42#32 3#32 (round_at (r := 6) (r' := 26) (by decide) (by decide) h0)
  have h2 : PairAt (k0_pay49 X U V) (k0_pay50 X U V) i _ := round_at (r := 17) (r' := 15) (by decide) (by decide) h1
  have h3 : PairAt (k0_pay51 X U V) (k0_pay52 X U V) i _ := round_at (r := 29) (r' := 3) (by decide) (by decide) h2
  have h4 : PairAt (k0_pay53 X U V) (k0_pay54 X U V) i _ := round_at (r := 16) (r' := 16) (by decide) (by decide) h3
  have h5 : PairAt (k0_pay55 X U V) (k0_pay56 X U V) i _ := round_at (r := 24) (r' := 8) (by decide) (by decide) h4
  exact ⟨congrArg (· + 42#32) h5.1, h5.2⟩

/-- The last four rounds and the comparison: the random bit of the block's element, against its probability. -/
theorem last_at (Q : FVec Ideal S128x128 .f32) {k : BitVec 32} {s : BitVec 32 × BitVec 32}
    (h : PairAt X Y i (s.1 + 42#32, s.2)) :
    k0_pay59 (F := Ideal) Q k Y X (k0_pay58 k) i
      = FloatOps.cmpf .olt
          (FloatOps.subf
            (Row.lit (((inject k 0#32 5 (even (inject 42#32 k 4 s))).1 ^^^ (inject k 0#32 5 (even (inject 42#32 k 4 s))).2) >>> 9#32
              ||| 1065353216#32))
            (Row.lit 0x3F800000#32)) (Q i) := by
  have h0 : PairAt X (addi (addi Y (k0_pay58 k)) (broadcast S128x128 4#32)) i (inject 42#32 k 4 s) :=
    ⟨h.1, congrArg (· + k + 4#32) h.2⟩
  have h4 := inject_at k 0#32 5#32 (round_at (r := 6) (r' := 26) (by decide) (by decide)
    (round_at (r := 26) (r' := 6) (by decide) (by decide) (round_at (r := 15) (r' := 17) (by decide) (by decide)
      (round_at (r := 13) (r' := 19) (by decide) (by decide) h0))))
  exact draw_at Q h4

/-- The third key word, as the kernel computes it. -/
theorem key_eq : Scalar.xori (Scalar.xori 466688986#32 0#32) 42#32 = key₂ := by decide

end Cert.KerWords
-- ==== Proof.RowFacts.lean ====
/- Facts about the numbers of one row: the random number is not negative, halving is the product with one half, and the
   random bit is 0 or 1. -/
module

public import proofs.«01_k».proof.Proof.Row
public import Idealize.ShloMosaic.Lib.IdealHost

@[expose] public section

noncomputable section

namespace Cert.Row

open Idealize.ShloMosaic

theorem lit_zero : lit 0x00000000#32 = (0 : EReal) := Ideal.ofBits_zero_f32

theorem lit_one : lit 0x3F800000#32 = (1 : EReal) := Ideal.ofBits_one_f32

theorem lit_two : lit 0x40000000#32 = ((2 : ℝ) : EReal) := by
  show Ideal.ofBits .f32 _ = _
  simp [Ideal.ofBits, Ideal.ieee, -EReal.coe_mul]; norm_num

theorem lit_half : lit 0x3F000000#32 = ((1 / 2 : ℝ) : EReal) := by
  show Ideal.ofBits .f32 _ = _
  simp [Ideal.ofBits, Ideal.ieee, -EReal.coe_mul]; norm_num

/-- The product with one half is half the number. -/
theorem mul_half (x : R) : FloatOps.mulf (F := Ideal) (φ := .f32) x (lit 0x3F000000#32) = half x := by
  unfold half
  rw [lit_half, lit_two]
  exact (Ideal.div_coe (by norm_num) x).symm

/-- The exponent of a drawn word is that of 1. -/
theorem draw_exponent (x : BitVec 32) : (x >>> 9#32 ||| 1065353216#32).extractLsb' 23 8 = 127#8 := by
  ext i hi
  simp only [BitVec.getElem_extractLsb', BitVec.getLsbD_or, BitVec.ushiftRight_eq', BitVec.getLsbD_ushiftRight]
  rw [BitVec.getLsbD_of_ge _ _ (by simp; omega), Bool.false_or]
  revert i
  decide

/-- A drawn word has no sign. -/
theorem draw_sign (x : BitVec 32) : (x >>> 9#32 ||| 1065353216#32).extractLsb' (8 + 23) 1 = 0#1 := by
  ext i hi
  simp only [BitVec.getElem_extractLsb', BitVec.getLsbD_or, BitVec.ushiftRight_eq', BitVec.getLsbD_ushiftRight]
  rw [BitVec.getLsbD_of_ge _ _ (by simp; omega), Bool.false_or]
  revert i
  decide

/-- The number of a drawn word is at least 1. -/
theorem one_le_draw (n : BitVec 32) : (1 : EReal) ≤ lit (Words.draw n) := by
  show (1 : EReal) ≤ Ideal.ieee 8 23 (Words.draw n)
  unfold Ideal.ieee Words.draw
  simp only [draw_exponent, draw_sign]
  generalize ((Words.bits n >>> 9#32 ||| 1065353216#32).extractLsb' 0 23).toNat = f
  rw [if_neg (by decide), if_neg (by decide), if_neg (by decide), ← EReal.coe_one, EReal.coe_le_coe_iff]
  have : (0 : ℝ) ≤ f := Nat.cast_nonneg f
  norm_num
  linarith

/-- The random number is not negative. -/
theorem random_nonneg (n : BitVec 32) : (0 : EReal) ≤ random n := by
  have h := one_le_draw n
  show (0 : EReal) ≤ (lit (Words.draw n) : EReal) - lit 0x3F800000#32
  rw [lit_one]
  have e : (1 : EReal) - 1 = 0 := by rw [← EReal.coe_one, ← EReal.coe_sub, sub_self, EReal.coe_zero]
  exact e ▸ EReal.sub_le_sub h le_rfl

/-- Scaled to the bounds 0 and 1 and cut off below, the random number is itself. -/
theorem random_scaled (n : BitVec 32) :
    FloatOps.maximumf (F := Ideal) (φ := .f32) (lit 0x00000000#32)
      (FloatOps.addf (FloatOps.mulf (random n) (FloatOps.subf (lit 0x3F800000#32) (lit 0x00000000#32))) (lit 0x00000000#32))
      = random n := by
  rw [lit_zero, lit_one]
  show max (0 : EReal) (random n * (1 - 0) + 0) = random n
  rw [sub_zero, mul_one, add_zero, max_eq_right (random_nonneg n)]

theorem ofBit_zero : ofBit 0#1 = (0 : EReal) := show (((0#1).toNat : ℝ) : EReal) = 0 by simp

theorem ofBit_one : ofBit 1#1 = (1 : EReal) := show (((1#1).toNat : ℝ) : EReal) = 1 by simp

theorem bit_cases (b : BitVec 1) : b = 0#1 ∨ b = 1#1 := by revert b; decide

/-- A bit widened to a word and read signed is the bit's number. -/
theorem signed_bit (b : BitVec 1) : FloatOps.sitofp (F := Ideal) .f32 (b.setWidth 32) = ofBit b := by
  obtain rfl | rfl := bit_cases b
  · exact (show (((BitVec.setWidth 32 0#1).toInt : ℝ) : EReal) = 0 by simp).trans ofBit_zero.symm
  · exact (show (((BitVec.setWidth 32 1#1).toInt : ℝ) : EReal) = 1 by simp).trans ofBit_one.symm

/-- One less a bit's number is the complement's number. -/
theorem one_sub_bit (b : BitVec 1) : FloatOps.subf (F := Ideal) (lit 0x3F800000#32) (ofBit b) = ofBit (~~~b) := by
  rw [lit_one]
  show (1 : EReal) - ofBit b = ofBit (~~~b)
  obtain rfl | rfl := bit_cases b
  · rw [show ~~~0#1 = 1#1 by decide, ofBit_zero, ofBit_one, sub_zero]
  · rw [show ~~~1#1 = 0#1 by decide, ofBit_zero, ofBit_one, ← EReal.coe_one, ← EReal.coe_sub, sub_self, EReal.coe_zero]

end Cert.Row
-- ==== Proof.KerRows.lean ====
/- What the kernel stores for one block of rows, element by element: from its blocks `X` of centres and `Y` of half-widths,
   whose first rows hold the first column of the batch, and `Z` of weights. -/
module

public import proofs.«01_k».proof.Proof.Gen.KernelIdeal.Frame
public import proofs.«01_k».proof.Proof.KerWords
public import proofs.«01_k».proof.Proof.RowFacts
public import Idealize.ShloMosaic.Lib.Pipeline.Value

@[expose] public section

noncomputable section

namespace Cert.KerRows

open Cert.KernelIdeal Cert.KernelIdeal.Gen Cert.Row
open Idealize.ShloMosaic Idealize.ShloMosaic.ValueIdx

/-- A block of 16384 batch rows, each a column of 64 numbers. -/
abbrev Tall : Type := FVec Ideal S64x16384 .f32

/-- A number for each of a block's rows. -/
abbrev Line : Type := FVec Ideal S1x16384 .f32

/-- The same, as a square. -/
abbrev Square : Type := FVec Ideal S128x128 .f32

variable (X Y : Tall) (Z : Square)

/-- The lower bound of the block's row `l`. -/
def lo (l : Fin 16384) : R := lower (X (ix2 (0 : Fin 64) l)) (Y (ix2 (0 : Fin 64) l))

/-- The upper bound of the block's row `l`. -/
def hi (l : Fin 16384) : R := upper (X (ix2 (0 : Fin 64) l)) (Y (ix2 (0 : Fin 64) l))

/-- The block's row at a place of the square. -/
abbrev place (j : S128x128.Idx) : Fin 16384 :=
  ⟨(j 0).val * 128 + (j 1).val, by have := idx2_lt0 j; have := idx2_lt1 j; omega⟩

theorem first_apply (l : Fin 16384) : k0_pay8 X (ix2 (0 : Fin 1) l) = X (ix2 (0 : Fin 64) l) :=
  (extractStridedSlice_apply _ _ slices_S64x16384_o0_0_S1x16384 _ (ix2 (0 : Fin 64) l) (fun a => match a with
    | ⟨0, _⟩ => rfl
    | ⟨1, _⟩ => (Nat.zero_add _).symm)).trans (congrFun (shapeCast_self X _) _)

theorem first_apply' (l : Fin 16384) : k0_pay9 Y (ix2 (0 : Fin 1) l) = Y (ix2 (0 : Fin 64) l) := first_apply Y l

theorem low_apply (l : Fin 16384) : k0_pay10 X Y (ix2 (0 : Fin 1) l) = lo X Y l :=
  congrArg₂ (FloatOps.subf (F := Ideal)) (first_apply X l) (first_apply' Y l)

theorem high_apply (l : Fin 16384) : k0_pay11 X Y (ix2 (0 : Fin 1) l) = hi X Y l :=
  congrArg₂ (FloatOps.addf (F := Ideal)) (first_apply X l) (first_apply' Y l)

theorem highCut_apply (l : Fin 16384) :
    k0_pay12 X Y (ix2 (0 : Fin 1) l) = FloatOps.minimumf (hi X Y l) (lit 0x00000000#32) :=
  congrArg (FloatOps.minimumf (F := Ideal) · (lit 0x00000000#32)) (high_apply X Y l)

theorem lowCut_apply (l : Fin 16384) :
    k0_pay13 X Y (ix2 (0 : Fin 1) l) = FloatOps.maximumf (lo X Y l) (lit 0x00000000#32) :=
  congrArg (FloatOps.maximumf (F := Ideal) · (lit 0x00000000#32)) (low_apply X Y l)

/-- A number that is the product with one half is the half. -/
theorem halved {x y : R} (h : x = y) : FloatOps.mulf (F := Ideal) (φ := .f32) x (lit 0x3F000000#32) = half y :=
  h ▸ mul_half x

/-- A line put in place of the first row of a block: row 0 is the line and the other rows are the block's. -/
theorem replaced_apply (B : Tall) (u : Line) (j : S64x16384.Idx) :
    select k0_pay15 (broadcastTo S64x16384 (shapeCast S1x16384 u shapeCasts_S1x16384_S1x16384) broadcasts_S1x16384_S64x16384)
        (shapeCast S64x16384 B shapeCasts_S64x16384_S64x16384) j
      = if (j 0).val = 0 then u (ix2 (0 : Fin 1) (j 1)) else B j := by
  have hj : (j 0).val < 64 := (j 0).isLt
  have hc : k0_pay15 j = BitVec.ofBool (BitVec.ofNat 32 (j 0).val == 0#32) :=
    congrArg (fun w : BitVec 32 => BitVec.ofBool (w == 0#32)) (iota_single_apply .tc S64x16384 32 0 iota_S64x16384_d0_w32 j)
  have hu : broadcastTo S64x16384 (shapeCast S1x16384 u shapeCasts_S1x16384_S1x16384) broadcasts_S1x16384_S64x16384 j
      = u (ix2 (0 : Fin 1) (j 1)) := by
    rw [shapeCast_self]
    exact broadcastTo_apply u _ j (ix2 (0 : Fin 1) (j 1)) (fun a => match a with
      | ⟨0, _⟩ => rfl
      | ⟨1, _⟩ => rfl)
  have hb : shapeCast S64x16384 B shapeCasts_S64x16384_S64x16384 j = B j := congrFun (shapeCast_self B _) j
  show (if k0_pay15 j = 1 then _ else _) = _
  rw [hc, hu, hb]
  by_cases h0 : (j 0).val = 0
  · rw [if_pos h0, h0]; rfl
  · rw [if_neg h0]
    refine if_neg fun h => h0 ?_
    have hn : (BitVec.ofNat 32 (j 0).val == 0#32) = true := by
      cases hb' : (BitVec.ofNat 32 (j 0).val == 0#32)
      · rw [hb'] at h; exact absurd h (by decide)
      · rfl
    have := congrArg BitVec.toNat (eq_of_beq hn)
    rw [BitVec.toNat_ofNat] at this
    change (j 0).val % 2 ^ 32 = 0 at this
    omega

/-- The left parts' centres. -/
theorem leftCentre_apply (j : S64x16384.Idx) :
    k0_pay16 X Y j = if (j 0).val = 0 then half (leftSum (lo X Y (j 1)) (hi X Y (j 1))) else X j :=
  (replaced_apply X _ j).trans (if_congr Iff.rfl
    (halved (congrArg₂ (FloatOps.addf (F := Ideal)) (low_apply X Y (j 1)) (highCut_apply X Y (j 1)))) rfl)

/-- The left parts' half-widths. -/
theorem leftRadius_apply (j : S64x16384.Idx) :
    k0_pay17 X Y j = if (j 0).val = 0 then half (leftGap (lo X Y (j 1)) (hi X Y (j 1))) else Y j :=
  (replaced_apply Y _ j).trans (if_congr Iff.rfl
    (halved (congrArg₂ (FloatOps.subf (F := Ideal)) (highCut_apply X Y (j 1)) (low_apply X Y (j 1)))) rfl)

/-- The right parts' centres. -/
theorem rightCentre_apply (j : S64x16384.Idx) :
    k0_pay18 X Y j = if (j 0).val = 0 then half (rightSum (lo X Y (j 1)) (hi X Y (j 1))) else X j :=
  (replaced_apply X _ j).trans (if_congr Iff.rfl
    (halved (congrArg₂ (FloatOps.addf (F := Ideal)) (lowCut_apply X Y (j 1)) (high_apply X Y (j 1)))) rfl)

/-- The right parts' half-widths. -/
theorem rightRadius_apply (j : S64x16384.Idx) :
    k0_pay19 (k0_pay7 Y) (k0_pay14 X Y) k0_pay15 j
      = if (j 0).val = 0 then half (rightGap (lo X Y (j 1)) (hi X Y (j 1))) else Y j :=
  (replaced_apply Y _ j).trans (if_congr Iff.rfl
    (halved (congrArg₂ (FloatOps.subf (F := Ideal)) (high_apply X Y (j 1)) (lowCut_apply X Y (j 1)))) rfl)

/-- A line laid out as a square. -/
theorem square_apply (u : Line) (j : S128x128.Idx) :
    shapeCast S128x128 u shapeCasts_S1x16384_S128x128 j = u (ix2 (0 : Fin 1) (place j)) :=
  shapeCast_apply u _ j (ix2 (0 : Fin 1) (place j)) (by
    rw [Shape.rowMajor_val_two, Shape.rowMajor_val_two]
    show 0 * 16384 + ((j 0).val * 128 + (j 1).val) = (j 0).val * 128 + (j 1).val
    omega)

variable (i : grid0.Coords)

/-- The probability of the left part, as the kernel's operations leave it, is a function of the two bounds. -/
theorem prob_of_bounds (u v : Line) (j : S128x128.Idx) {a d : R} (ha : u (ix2 (0 : Fin 1) (place j)) = a)
    (hd : v (ix2 (0 : Fin 1) (place j)) = d) : k0_pay20 u v j = prob (lower a d) (upper a d) := by
  have h1 := (square_apply u j).trans ha
  have h2 := (square_apply v j).trans hd
  subst ha hd
  rw [← h1, ← h2]
  rfl

/-- The probability of the left part. -/
theorem prob_apply (j : S128x128.Idx) : k0_pay60 i X Y Z j = prob (lo X Y (place j)) (hi X Y (place j)) := by
  unfold k0_pay60
  rw [View.ld_unit_zero (funext fun a => by fin_cases a <;> rfl), View.ld_unit_zero (funext fun a => by fin_cases a <;> rfl)]
  exact prob_of_bounds _ _ j (first_apply X (place j)) (first_apply' Y (place j))

/-- The left parts' weights, from the probability. -/
theorem leftMass_apply (Q : Square) (j : S128x128.Idx) : k0_pay3 Q Z j = mass (Z j) (Q j) := by
  unfold k0_pay3 k0_pay2
  rw [shapeCast_self]
  rfl

/-- The right parts' weights. -/
theorem rightMass_apply (Q : Square) (j : S128x128.Idx) :
    k0_pay4 Q Z j = mass (Z j) (FloatOps.subf (lit 0x3F800000#32) (Q j)) := by
  unfold k0_pay4 k0_pay2
  rw [shapeCast_self]
  rfl

/-- A bit stored as a number. -/
theorem leftBit_apply (b : IVec S128x128 1) (j : S128x128.Idx) : k0_pay1 (F := Ideal) b j = ofBit (b j) := signed_bit (b j)

/-- Its complement stored as a number. -/
theorem rightBit_apply (b : IVec S128x128 1) (j : S128x128.Idx) : k0_pay5 (F := Ideal) b j = ofBit (~~~b j) :=
  (congrArg (FloatOps.subf (F := Ideal) (lit 0x3F800000#32)) (leftBit_apply b j)).trans (one_sub_bit (b j))

/-- The number in the batch of the block's row at a place of the square. -/
theorem number_apply (j : S128x128.Idx) :
    k0_pay61 (F := Ideal) i X Y Z j = BitVec.ofNat 32 ((i 0).val * 16384 + (place j).val) := by
  have h0 : iota .tc S128x128 32 [0] iota_S128x128_d0_w32 j = BitVec.ofNat 32 (j 0).val := iota_single_apply _ _ _ _ _ j
  have h1 : iota .tc S128x128 32 [1] iota_S128x128_d1_w32 j = BitVec.ofNat 32 (j 1).val := iota_single_apply _ _ _ _ _ j
  show BitVec.ofNat 32 (i 0).val * 16384#32 + iota .tc S128x128 32 [0] iota_S128x128_d0_w32 j * 128#32
    + iota .tc S128x128 32 [1] iota_S128x128_d1_w32 j = _
  rw [h0, h1]
  apply BitVec.eq_of_toNat_eq
  simp only [BitVec.toNat_add, BitVec.toNat_mul, BitVec.toNat_ofNat]
  show _ = ((i 0).val * 16384 + ((j 0).val * 128 + (j 1).val)) % 2 ^ 32
  have ha := idx2_lt0 j
  have hb := idx2_lt1 j
  have hi : (i 0).val < 16 := (i 0).isLt
  omega

/-- The random bit of the block's row at a place of the square. -/
theorem coin_apply (j : S128x128.Idx) :
    k0_pay67 (F := Ideal) i X Y Z j
      = coin (BitVec.ofNat 32 ((i 0).val * 16384 + (place j).val)) (prob (lo X Y (place j)) (hi X Y (place j))) := by
  rw [← prob_apply X Y Z i j]
  unfold k0_pay67 k0_pay64 k0_pay65 k0_pay66 k0_pay62 k0_pay63
  rw [KerWords.key_eq]
  exact KerWords.last_at _ (KerWords.third_at (KerWords.second_at _ (KerWords.first_at _ (number_apply X Y Z i j))))

end Cert.KerRows
-- ==== Proof.Batch.lean ====
/- The eight results, as functions of the three arguments: what every row gets (`Row`), laid out over the batch. -/
module

public import proofs.«01_k».proof.Proof.Row

@[expose] public section

noncomputable section

namespace Cert.Batch

open Idealize.ShloMosaic Idealize.ShloMosaic.ValueIdx Cert.Row

/-- A number for every row and each of its 64 columns. -/
abbrev Mat : Type := (⟨2, ![262144, 64]⟩ : Shape).Idx → R

/-- A number for every row. -/
abbrev Col : Type := (⟨1, ![262144]⟩ : Shape).Idx → R

variable (A D : Mat) (P : Col)

/-- The lower bound of row `n`'s interval: the first column of `A` less that of `D`. -/
def lo (n : Fin 262144) : R := lower (A (ix2 n (0 : Fin 64))) (D (ix2 n (0 : Fin 64)))

/-- The upper bound: the first column of `A` plus that of `D`. -/
def hi (n : Fin 262144) : R := upper (A (ix2 n (0 : Fin 64))) (D (ix2 n (0 : Fin 64)))

/-- A matrix with its first column replaced. -/
def setFirst (X : Mat) (u : Fin 262144 → R) : Mat := fun j => if (j 1).val = 0 then u (j 0) else X j

/-- The left parts' centres. -/
def leftCentre : Mat := setFirst A fun n => half (leftSum (lo A D n) (hi A D n))

/-- The left parts' half-widths. -/
def leftRadius : Mat := setFirst D fun n => half (leftGap (lo A D n) (hi A D n))

/-- The right parts' centres. -/
def rightCentre : Mat := setFirst A fun n => half (rightSum (lo A D n) (hi A D n))

/-- The right parts' half-widths. -/
def rightRadius : Mat := setFirst D fun n => half (rightGap (lo A D n) (hi A D n))

/-- The left parts' weights. -/
def leftMass : Col := fun i => mass (P i) (prob (lo A D (i 0)) (hi A D (i 0)))

/-- The right parts' weights. -/
def rightMass : Col := fun i => mass (P i) (rest (lo A D (i 0)) (hi A D (i 0)))

/-- The random bit of row `n`. -/
def toss (n : Fin 262144) : BitVec 1 := coin (BitVec.ofNat 32 n.val) (prob (lo A D n) (hi A D n))

/-- The random bits, as numbers. -/
def leftBit : Col := fun i => ofBit (toss A D (i 0))

/-- Their complements. -/
def rightBit : Col := fun i => ofBit (~~~toss A D (i 0))

end Cert.Batch
-- ==== Proof.KerArrays.lean ====
/- The kernel's eight results as functions of its three arguments: every block the grid writes is a block of the transposed or
   reshaped result, and the blocks cover the arrays. -/
module

public import proofs.«01_k».proof.Proof.Gen.KernelIdeal.Read
public import proofs.«01_k».proof.Proof.KerRows
public import proofs.«01_k».proof.Proof.Batch
public import Idealize.ShloMosaic.Lib.Pipeline.ValueKit

@[expose] public section

noncomputable section

namespace Cert.KerArrays

open Cert.KernelIdeal Cert.KernelIdeal.Gen Cert.Row
open Idealize.ShloMosaic hiding ix1 ix2 eq_ix1 eq_ix2
open Idealize.ShloMosaic.ValueIdx Idealize.ShloMosaic.TcCoe Idealize.ShloMosaic.StableHlo
open Idealize.SL.Sem

variable (m : (ℓ : Loc nD τ sig) → Buf (Elt Ideal) ℓ) (c : Dev nD)

/-- The centres. -/
abbrev argA : Batch.Mat := m ((c.tc : Thread nD τ).loc main_arg0)

/-- The half-widths. -/
abbrev argD : Batch.Mat := m ((c.tc : Thread nD τ).loc main_arg1)

/-- The weights. -/
abbrev argP : Batch.Col := m ((c.tc : Thread nD τ).loc main_arg2)

/-- The first operand of the launch is the transposed centres, -/
theorem entry0 : V m c main_v0 = transpose S64x262144 [1, 0] (argA m c) transposes_S262144x64_S64x262144_1_0 := by
  show after (List.flatten [hostOps0]) (fun b => m (c, b)) (Proc.devRef .tc main_v0) = _
  simp only [hostOps0, List.flatten_cons, List.flatten_nil, List.append_nil]
  after_results <;> rfl

/-- the second the transposed half-widths, -/
theorem entry1 : V m c main_v1 = transpose S64x262144 [1, 0] (argD m c) transposes_S262144x64_S64x262144_1_0 := by
  show after (List.flatten [hostOps0]) (fun b => m (c, b)) (Proc.devRef .tc main_v1) = _
  simp only [hostOps0, List.flatten_cons, List.flatten_nil, List.append_nil]
  after_results <;> rfl

/-- and the third the weights in rows of 128. -/
theorem entry2 : V m c main_v2 = shapeCast S2048x128 (argP m c) shapeCasts_S262144_S2048x128 := by
  show after (List.flatten [hostOps0]) (fun b => m (c, b)) (Proc.devRef .tc main_v2) = _
  simp only [hostOps0, List.flatten_cons, List.flatten_nil, List.append_nil]
  after_results <;> rfl

/-- The batch row at row `l` of grid point `t`'s block. -/
abbrev row (t : Fin cfg0.N) (l : Fin 16384) : Fin 262144 :=
  ⟨t.val * 16384 + l.val, by have : t.val < 16 := t.isLt; omega⟩

/-- A transposed matrix at an index. -/
theorem turned_apply (B : Batch.Mat) (k : S64x262144.Idx) :
    transpose S64x262144 [1, 0] B transposes_S262144x64_S64x262144_1_0 k = B (ix2 (k 1) (k 0)) :=
  transpose_apply [1, 0] B _ k (ix2 (k 1) (k 0)) (fun b => match b with
    | ⟨0, _⟩ => rfl
    | ⟨1, _⟩ => rfl)

/-- The batch row at a place of an array in rows of 128. -/
abbrev flat (k : S2048x128.Idx) : Fin 262144 :=
  ⟨(k 0).val * 128 + (k 1).val, by have := idx2_lt0 k; have := idx2_lt1 k; omega⟩

/-- A column in rows of 128 at an index. -/
theorem folded_apply (B : Batch.Col) (k : S2048x128.Idx) :
    shapeCast S2048x128 B shapeCasts_S262144_S2048x128 k = B (ix1 (flat k)) :=
  shapeCast_apply B _ k (ix1 (flat k)) (by
    rw [Shape.rowMajor_val_one, Shape.rowMajor_val_two]; rfl)

/-- The grid's one coordinate is the point's number. -/
theorem coords_eq : ∀ t : Fin cfg0.N, (grid0.coords t 0).val = t.val :=
  (by decide +kernel : ∀ t : Fin grid0.N, (grid0.coords t 0).val = t.val)

/-- Every window of the matrices is at block `(0, t)` at grid point `t`, -/
theorem tall_index : ∀ t : Fin cfg0.N, win0_0.index t = ![0, t.val] :=
  (by decide +kernel : ∀ t : Fin grid0.N, win0_0.index t = ![0, t.val])

/-- and every window of the columns at block `(t, 0)`. -/
theorem square_index : ∀ t : Fin cfg0.N, win0_2.index t = ![t.val, 0] :=
  (by decide +kernel : ∀ t : Fin grid0.N, win0_2.index t = ![t.val, 0])

/-- The block of centres of grid point `t`. -/
abbrev blockA (t : Fin cfg0.N) : KerRows.Tall := iblk m c 0 t

/-- Its block of half-widths. -/
abbrev blockD (t : Fin cfg0.N) : KerRows.Tall := iblk m c 1 t

/-- Its block of weights. -/
abbrev blockP (t : Fin cfg0.N) : KerRows.Square := iblk m c 2 t

theorem blockA_apply (t : Fin cfg0.N) (y : S64x16384.Idx) : blockA m c t y = argA m c (ix2 (row t (y 1)) (y 0)) := by
  show V m c main_v0 ((win0_0.blk t).view.emb y) = _
  rw [entry0]
  refine (turned_apply _ _).trans (congrArg (argA m c) (congrArg₂ ix2 (Fin.ext ?_) (Fin.ext ?_)))
  · blk_simp [tall_index t]
  · blk_simp [tall_index t]

theorem blockD_apply (t : Fin cfg0.N) (y : S64x16384.Idx) : blockD m c t y = argD m c (ix2 (row t (y 1)) (y 0)) := by
  show V m c main_v1 ((win0_1.blk t).view.emb y) = _
  rw [entry1]
  refine (turned_apply _ _).trans (congrArg (argD m c) (congrArg₂ ix2 (Fin.ext ?_) (Fin.ext ?_)))
  · blk_simp [show win0_1.index t = _ from tall_index t]
  · blk_simp [show win0_1.index t = _ from tall_index t]

theorem blockP_apply (t : Fin cfg0.N) (y : S128x128.Idx) :
    blockP m c t y = argP m c (ix1 (row t (KerRows.place y))) := by
  show V m c main_v2 ((win0_2.blk t).view.emb y) = _
  rw [entry2]
  refine (folded_apply _ _).trans (congrArg (argP m c) (congrArg ix1 (Fin.ext ?_)))
  show ((win0_2.blk t).view.emb y 0).val * 128 + ((win0_2.blk t).view.emb y 1).val
    = t.val * 16384 + ((y 0).val * 128 + (y 1).val)
  blk_simp [square_index t]
  omega

/-- The bounds of a block's row are those of the batch's. -/
theorem lo_eq (t : Fin cfg0.N) (l : Fin 16384) :
    KerRows.lo (blockA m c t) (blockD m c t) l = Batch.lo (argA m c) (argD m c) (row t l) :=
  congrArg₂ lower (blockA_apply m c t _) (blockD_apply m c t _)

theorem hi_eq (t : Fin cfg0.N) (l : Fin 16384) :
    KerRows.hi (blockA m c t) (blockD m c t) l = Batch.hi (argA m c) (argD m c) (row t l) :=
  congrArg₂ upper (blockA_apply m c t _) (blockD_apply m c t _)

/-- An element of a block whose first row is replaced is the transposed matrix's with its first column replaced. -/
theorem first_block (f : R → R → R) (B : Batch.Mat) (t : Fin cfg0.N) (y : S64x16384.Idx) (k : S64x262144.Idx)
    (h0 : (k 0).val = (y 0).val) (h1 : (k 1).val = t.val * 16384 + (y 1).val) {b : R}
    (hb : b = B (ix2 (row t (y 1)) (y 0))) :
    (if (y 0).val = 0 then half (f (KerRows.lo (blockA m c t) (blockD m c t) (y 1)) (KerRows.hi (blockA m c t) (blockD m c t) (y 1)))
      else b)
      = Batch.setFirst B (fun n => half (f (Batch.lo (argA m c) (argD m c) n) (Batch.hi (argA m c) (argD m c) n)))
          (ix2 (k 1) (k 0)) := by
  have e0 : (k 0 : Fin 64) = y 0 := Fin.ext h0
  have e1 : (k 1 : Fin 262144) = row t (y 1) := Fin.ext h1
  have e : ix2 (n0 := 262144) (n1 := 64) (k 1) (k 0) = ix2 (row t (y 1)) (y 0) := congrArg₂ ix2 e1 e0
  rw [e]
  exact if_congr Iff.rfl (congrArg half (congrArg₂ f (lo_eq m c t (y 1)) (hi_eq m c t (y 1)))) hb

theorem hz : (![0, 0] : Fin 2 → Nat) = fun _ => 0 := funext fun a => by fin_cases a <;> rfl

/-- The first result array is the transposed matrix of the left parts' centres, -/
theorem array3 : (dats m 0 c).arrAt 3 cfg0.N
    = fun k : S64x262144.Idx => Batch.leftCentre (argA m c) (argD m c) (ix2 (k 1) (k 0)) := by
  refine (dats m 0 c).arrAt_eq_of_covers 3 _ (by decide +kernel) fun t _ y => ?_
  blk_simp
  rw [after0_3]
  unfold out0_3
  rw [View.canon_unit_zero hz, View.ld_unit_zero hz, View.ld_unit_zero hz]
  refine (KerRows.leftCentre_apply (blockA m c t) (blockD m c t) y).trans
    (first_block m c leftSum _ t y _ ?_ ?_ (blockA_apply m c t y)) <;> blk_simp [show win0_3.index t = _ from tall_index t]

/-- the second that of their half-widths, -/
theorem array4 : (dats m 0 c).arrAt 4 cfg0.N
    = fun k : S64x262144.Idx => Batch.leftRadius (argA m c) (argD m c) (ix2 (k 1) (k 0)) := by
  refine (dats m 0 c).arrAt_eq_of_covers 4 _ (by decide +kernel) fun t _ y => ?_
  blk_simp
  rw [after0_4]
  unfold out0_4
  rw [View.canon_unit_zero hz, View.ld_unit_zero hz, View.ld_unit_zero hz]
  refine (KerRows.leftRadius_apply (blockA m c t) (blockD m c t) y).trans
    (first_block m c leftGap _ t y _ ?_ ?_ (blockD_apply m c t y)) <;> blk_simp [show win0_4.index t = _ from tall_index t]

/-- the third that of the right parts' centres, -/
theorem array5 : (dats m 0 c).arrAt 5 cfg0.N
    = fun k : S64x262144.Idx => Batch.rightCentre (argA m c) (argD m c) (ix2 (k 1) (k 0)) := by
  refine (dats m 0 c).arrAt_eq_of_covers 5 _ (by decide +kernel) fun t _ y => ?_
  blk_simp
  rw [after0_5]
  unfold out0_5
  rw [View.canon_unit_zero hz, View.ld_unit_zero hz, View.ld_unit_zero hz]
  refine (KerRows.rightCentre_apply (blockA m c t) (blockD m c t) y).trans
    (first_block m c rightSum _ t y _ ?_ ?_ (blockA_apply m c t y)) <;> blk_simp [show win0_5.index t = _ from tall_index t]

/-- the fourth that of their half-widths, -/
theorem array6 : (dats m 0 c).arrAt 6 cfg0.N
    = fun k : S64x262144.Idx => Batch.rightRadius (argA m c) (argD m c) (ix2 (k 1) (k 0)) := by
  refine (dats m 0 c).arrAt_eq_of_covers 6 _ (by decide +kernel) fun t _ y => ?_
  blk_simp
  rw [after0_6]
  unfold out0_6
  rw [View.canon_unit_zero hz, View.ld_unit_zero hz, View.ld_unit_zero hz]
  refine (KerRows.rightRadius_apply (blockA m c t) (blockD m c t) y).trans
    (first_block m c rightGap _ t y _ ?_ ?_ (blockD_apply m c t y)) <;> blk_simp [show win0_6.index t = _ from tall_index t]

/-- The batch row at a place of grid point `t`'s square, by its place in the array in rows of 128. -/
theorem flat_eq (t : Fin cfg0.N) (y : S128x128.Idx) (k : S2048x128.Idx) (h0 : (k 0).val = t.val * 128 + (y 0).val)
    (h1 : (k 1).val = (y 1).val) : row t (KerRows.place y) = flat k :=
  Fin.ext (by
    show t.val * 16384 + ((y 0).val * 128 + (y 1).val) = (k 0).val * 128 + (k 1).val
    omega)

/-- The probability of a block's row is that of the batch's. -/
theorem prob_eq (t : Fin cfg0.N) (y : S128x128.Idx) :
    k0_pay60 (F := Ideal) (grid0.coords t) (blockA m c t) (blockD m c t) (blockP m c t) y
      = prob (Batch.lo (argA m c) (argD m c) (row t (KerRows.place y))) (Batch.hi (argA m c) (argD m c) (row t (KerRows.place y))) :=
  (KerRows.prob_apply _ _ _ _ y).trans (congrArg₂ prob (lo_eq m c t _) (hi_eq m c t _))

/-- The random bit of a block's row is that of the batch's. -/
theorem toss_eq (t : Fin cfg0.N) (y : S128x128.Idx) :
    k0_pay67 (F := Ideal) (grid0.coords t) (blockA m c t) (blockD m c t) (blockP m c t) y
      = Batch.toss (argA m c) (argD m c) (row t (KerRows.place y)) :=
  (KerRows.coin_apply _ _ _ _ y).trans (congrArg₂ coin
    (congrArg (fun n => BitVec.ofNat 32 (n * 16384 + (KerRows.place y).val)) (coords_eq t))
    (congrArg₂ prob (lo_eq m c t _) (hi_eq m c t _)))

/-- The fifth result array holds the left parts' weights in rows of 128, -/
theorem array7 : (dats m 0 c).arrAt 7 cfg0.N
    = fun k : S2048x128.Idx => Batch.leftMass (argA m c) (argD m c) (argP m c) (ix1 (flat k)) := by
  refine (dats m 0 c).arrAt_eq_of_covers 7 _ (by decide +kernel) fun t _ y => ?_
  blk_simp
  rw [after0_7]
  unfold out0_7
  rw [View.canon_unit_zero hz, View.ld_unit_zero hz]
  refine ((KerRows.leftMass_apply (blockP m c t) _ y).trans (congrArg₂ mass (blockP_apply m c t y) (prob_eq m c t y))).trans
    (congrArg (fun n => Batch.leftMass (argA m c) (argD m c) (argP m c) (ix1 n)) (flat_eq t y _ ?_ ?_)) <;> blk_simp [show win0_7.index t = _ from square_index t]

/-- the sixth the right parts' weights, -/
theorem array8 : (dats m 0 c).arrAt 8 cfg0.N
    = fun k : S2048x128.Idx => Batch.rightMass (argA m c) (argD m c) (argP m c) (ix1 (flat k)) := by
  refine (dats m 0 c).arrAt_eq_of_covers 8 _ (by decide +kernel) fun t _ y => ?_
  blk_simp
  rw [after0_8]
  unfold out0_8
  rw [View.canon_unit_zero hz, View.ld_unit_zero hz]
  refine ((KerRows.rightMass_apply (blockP m c t) _ y).trans (congrArg₂ mass (blockP_apply m c t y)
    (congrArg (FloatOps.subf (F := Ideal) (lit 0x3F800000#32)) (prob_eq m c t y)))).trans
    (congrArg (fun n => Batch.rightMass (argA m c) (argD m c) (argP m c) (ix1 n)) (flat_eq t y _ ?_ ?_)) <;> blk_simp [show win0_8.index t = _ from square_index t]

/-- the seventh the random bits as numbers, -/
theorem array9 : (dats m 0 c).arrAt 9 cfg0.N
    = fun k : S2048x128.Idx => Batch.leftBit (argA m c) (argD m c) (ix1 (flat k)) := by
  refine (dats m 0 c).arrAt_eq_of_covers 9 _ (by decide +kernel) fun t _ y => ?_
  blk_simp
  rw [after0_9]
  unfold out0_9
  rw [View.canon_unit_zero hz]
  refine ((KerRows.leftBit_apply _ y).trans (congrArg ofBit (toss_eq m c t y))).trans
    (congrArg (fun n => Batch.leftBit (argA m c) (argD m c) (ix1 n)) (flat_eq t y _ ?_ ?_)) <;> blk_simp [show win0_9.index t = _ from square_index t]

/-- and the eighth their complements. -/
theorem array10 : (dats m 0 c).arrAt 10 cfg0.N
    = fun k : S2048x128.Idx => Batch.rightBit (argA m c) (argD m c) (ix1 (flat k)) := by
  refine (dats m 0 c).arrAt_eq_of_covers 10 _ (by decide +kernel) fun t _ y => ?_
  blk_simp
  rw [after0_10]
  unfold out0_10
  rw [View.canon_unit_zero hz]
  refine ((KerRows.rightBit_apply _ y).trans (congrArg (fun b => ofBit (~~~b)) (toss_eq m c t y))).trans
    (congrArg (fun n => Batch.rightBit (argA m c) (argD m c) (ix1 n)) (flat_eq t y _ ?_ ?_)) <;> blk_simp [show win0_10.index t = _ from square_index t]

/-- A matrix transposed there and back. -/
theorem back_turned (G : Batch.Mat) :
    transpose S262144x64 [1, 0] (fun k : S64x262144.Idx => G (ix2 (k 1) (k 0))) transposes_S64x262144_S262144x64_1_0 = G :=
  funext fun i => (Read.val_main_v4_apply (F := Ideal) _ i).trans (congrArg G (eq_ix2 i).symm)

/-- A column read out of rows of 128 and laid out again. -/
theorem back_folded (G : Batch.Col) :
    shapeCast S262144 (fun k : S2048x128.Idx => G (ix1 (flat k))) shapeCasts_S2048x128_S262144 = G :=
  funext fun i => (Read.val_main_v6_apply (F := Ideal) _ i).trans (congrArg G ((congrArg ix1 (Fin.ext (by
    show (i 0).val / 128 * 128 + (i 0).val % 128 = (i 0).val
    omega))).trans (eq_ix1 i).symm))

/-- Every execution of the kernel ends with the eight results at those functions of the arguments, and the arguments
    unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v4) = Batch.leftCentre (argA m c) (argD m c)
      ∧ r.2.mem ((c.tc : Thread nD τ).loc main_v5) = Batch.leftRadius (argA m c) (argD m c)
      ∧ r.2.mem ((c.tc : Thread nD τ).loc main_v6) = Batch.leftMass (argA m c) (argD m c) (argP m c)
      ∧ r.2.mem ((c.tc : Thread nD τ).loc main_v7) = Batch.rightCentre (argA m c) (argD m c)
      ∧ r.2.mem ((c.tc : Thread nD τ).loc main_v8) = Batch.rightRadius (argA m c) (argD m c)
      ∧ r.2.mem ((c.tc : Thread nD τ).loc main_v9) = Batch.rightMass (argA m c) (argD m c) (argP m c)
      ∧ r.2.mem ((c.tc : Thread nD τ).loc main_v10) = Batch.leftBit (argA m c) (argD m c)
      ∧ r.2.mem ((c.tc : Thread nD τ).loc main_v11) = Batch.rightBit (argA m c) (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h4, h5, h6, h7, h8, h9, h10, h11, ha⟩ := h c
    have turned {x : S64x262144.Idx → R} {G : Batch.Mat} (e : x = fun k => G (ix2 (k 1) (k 0))) :
        transpose S262144x64 [1, 0] x transposes_S64x262144_S262144x64_1_0 = G := e ▸ back_turned G
    have folded {x : S2048x128.Idx → R} {G : Batch.Col} (e : x = fun k => G (ix1 (flat k))) :
        shapeCast S262144 x shapeCasts_S2048x128_S262144 = G := e ▸ back_folded G
    exact ⟨h4.trans (turned (array3 m c)), h5.trans (turned (array4 m c)), h6.trans (folded (array7 m c)),
      h7.trans (turned (array5 m c)), h8.trans (turned (array6 m c)), h9.trans (folded (array8 m c)),
      h10.trans (folded (array9 m c)), h11.trans (folded (array10 m c)), ha⟩) (Value.run m ρ)

end Cert.KerArrays
-- ==== Proof.Straight.lean ====
/- Straight-line host programs in which every operation writes its own buffer and reads earlier ones.

   A position is given to every buffer. The operations write the buffers at the positions `k`, `k + 1`, … in order, and
   each reads buffers of smaller positions only. Then, when all of them have run, every buffer written holds the value its
   operation computes from the FINAL contents of the buffers it reads (`holds_after`), and every buffer of position less
   than `k` is unchanged (`after_of_lt`). -/
module

public import Idealize.ShloMosaic.Lib.StableHlo.Run

@[expose] public section

namespace Cert.Straight

open Idealize.ShloMosaic Idealize.ShloMosaic.TcCoe Idealize.ShloMosaic.StableHlo

variable {τ : Topo} {sig : RefSig} {Val : EltTy → Type}

/-- The contents `W` satisfy the operation's equation: each buffer it writes holds what it computes from `W`. -/
def Holds (W : Valuation τ sig Val) (op : HloOp τ sig Val) : Prop := ∀ b ∈ op.writes, W b = op.result W b

/-- Every equation of a list holds. -/
def HoldsAll (W : Valuation τ sig Val) : List (HloOp τ sig Val) → Prop
  | [] => True
  | op :: ops => Holds W op ∧ HoldsAll W ops

theorem holdsAll_append {W : Valuation τ sig Val} {l l' : List (HloOp τ sig Val)} :
    HoldsAll W (l ++ l') ↔ HoldsAll W l ∧ HoldsAll W l' := by
  induction l with
  | nil => simp [HoldsAll]
  | cons op l ih => simp [HoldsAll, ih, and_assoc]

/-- The operation writes the one buffer at position `k`, from buffers at positions below `k`. -/
structure Step (pos : Ref sig .tc → ℕ) (k : ℕ) (op : HloOp τ sig Val) : Prop where
  writes : ∃ y : Ref sig .tc, pos y = k ∧ op.writes = {(y : DevRef τ sig)} ∧
    ∀ G H : Valuation τ sig Val, (∀ r : Ref sig .tc, pos r < k → G r = H r) → op.result G y = op.result H y
  bufs : op.bufs ⊆ tcRefs τ sig
  fresh : op.fresh = ∅

/-- The operations of the list take the positions `k`, `k + 1`, …, the next free one being `n`. -/
def Steps (pos : Ref sig .tc → ℕ) : ℕ → List (HloOp τ sig Val) → ℕ → Prop
  | k, [], n => k = n
  | k, op :: ops, n => Step pos k op ∧ Steps pos (k + 1) ops n

variable {pos : Ref sig .tc → ℕ}

theorem Steps.nil {k : ℕ} : Steps (τ := τ) (Val := Val) pos k [] k := rfl

theorem Steps.append {k n p : ℕ} {l l' : List (HloOp τ sig Val)} (h : Steps pos k l n) (h' : Steps pos n l' p) :
    Steps pos k (l ++ l') p := by
  induction l generalizing k with
  | nil => cases h; exact h'
  | cons op l ih => exact ⟨h.1, ih h.2⟩

theorem Steps.all {k n : ℕ} {l : List (HloOp τ sig Val)} (h : Steps pos k l n) :
    ∀ op ∈ l, op.bufs ⊆ tcRefs τ sig ∧ op.fresh = ∅ := by
  induction l generalizing k with
  | nil => simp
  | cons op l ih =>
    rintro o (_ | ⟨_, ho⟩)
    · exact ⟨h.1.bufs, h.1.fresh⟩
    · exact ih h.2 o ho

/-- A buffer of a smaller position than every operation's is not written. -/
theorem after_of_lt {k n : ℕ} {l : List (HloOp τ sig Val)} (h : Steps pos k l n) (V : Valuation τ sig Val)
    (r : Ref sig .tc) (hr : pos r < k) : after l V r = V r := by
  induction l generalizing k V with
  | nil => rfl
  | cons op l ih =>
    obtain ⟨y, hy, hw, -⟩ := h.1.writes
    rw [after_cons, ih h.2 _ (by omega)]
    refine HloOp.result_of_not_mem _ _ ?_
    rw [hw, Finset.mem_singleton]
    intro e
    have : r = y := Proc.devRef_injective _ e
    subst this; omega

/-- When the operations have run, the equation of each holds. -/
theorem holds_after {k n : ℕ} {l : List (HloOp τ sig Val)} (h : Steps pos k l n) (V : Valuation τ sig Val) :
    HoldsAll (after l V) l := by
  induction l generalizing k V with
  | nil => trivial
  | cons op l ih =>
    refine ⟨?_, by rw [after_cons]; exact ih h.2 _⟩
    obtain ⟨y, hy, hw, hd⟩ := h.1.writes
    intro b hb
    rw [hw, Finset.mem_singleton] at hb
    subst hb
    rw [after_cons, after_of_lt h.2 _ y (by omega)]
    refine hd _ _ fun r hr => ?_
    rw [after_of_lt h.2 _ r (by omega)]
    refine (HloOp.result_of_not_mem _ _ ?_).symm
    rw [hw, Finset.mem_singleton]
    intro e
    have : r = y := Proc.devRef_injective _ e
    subst this; omega

/-! ## Each builder's step -/

theorem step_nullary {y : Ref sig .tc} {v : y.ty.Contents Val} {hy} {k : ℕ} (h : pos y = k) :
    Step (τ := τ) pos k (nullary y v hy) :=
  ⟨⟨y, h, rfl, fun G H _ => by rw [nullary_result, nullary_result]⟩, nullary_bufs_sub _ _ _, rfl⟩

theorem step_unary {x y : Ref sig .tc} {f : x.ty.Contents Val → y.ty.Contents Val} {hx hy} {k : ℕ}
    (h : pos y = k) (h₁ : pos x < k) : Step (τ := τ) pos k (unary x y f hx hy) :=
  ⟨⟨y, h, rfl, fun G H e => by rw [unary_result, unary_result, e _ h₁]⟩, unary_bufs_sub _ _ _ _ _, rfl⟩

theorem step_reshape {x y : Ref sig .tc} {he hn hx hy} {k : ℕ}
    (h : pos y = k) (h₁ : pos x < k) : Step (τ := τ) pos k (reshape (Val := Val) x y he hn hx hy) :=
  ⟨⟨y, h, rfl, fun G H e => by rw [reshape_result, reshape_result, e _ h₁]⟩, reshape_bufs_sub _ _ _ _ _ _, rfl⟩

theorem step_binary {a b y : Ref sig .tc} {f : a.ty.Contents Val → b.ty.Contents Val → y.ty.Contents Val} {ha hb hy}
    {k : ℕ} (h : pos y = k) (h₁ : pos a < k) (h₂ : pos b < k) : Step (τ := τ) pos k (binary a b y f ha hb hy) :=
  ⟨⟨y, h, rfl, fun G H e => by rw [binary_result, binary_result, e _ h₁, e _ h₂]⟩, binary_bufs_sub _ _ _ _ _ _ _, rfl⟩

theorem step_ternary {c a b y : Ref sig .tc}
    {f : c.ty.Contents Val → a.ty.Contents Val → b.ty.Contents Val → y.ty.Contents Val} {hc ha hb hy} {k : ℕ}
    (h : pos y = k) (h₀ : pos c < k) (h₁ : pos a < k) (h₂ : pos b < k) :
    Step (τ := τ) pos k (ternary c a b y f hc ha hb hy) :=
  ⟨⟨y, h, rfl, fun G H e => by rw [ternary_result, ternary_result, e _ h₀, e _ h₁, e _ h₂]⟩,
    ternary_bufs_sub _ _ _ _ _ _ _ _ _, rfl⟩

/-! ## Each builder's equation, at typed references -/

/-- What `W` holds in the buffer of a typed reference. -/
def rd {T : BufTy} (W : Valuation τ sig Val) (x : TRef sig T) : T.Contents Val := x.ofBuf (W (x.ref : DevRef τ sig))

variable {W : Valuation τ sig Val} {T Ta Tb Tc : BufTy}

theorem ofBuf_of_toBuf {y : TRef sig T} {v : T.Contents Val} {w : y.ref.ty.Contents Val} (h : w = y.toBuf v) :
    y.ofBuf w = v := by
  subst h; obtain ⟨r, rfl, _, _⟩ := y; rfl

theorem Holds.nullary {y : TRef sig T} {v : T.Contents Val} (h : Holds W (TRef.nullary y v)) : rd W y = v :=
  ofBuf_of_toBuf ((h _ (Finset.mem_singleton_self _)).trans (nullary_result _ _ _ _))

theorem Holds.unary {x : TRef sig Ta} {y : TRef sig T} {f : Ta.Contents Val → T.Contents Val}
    (h : Holds W (TRef.unary x y f)) : rd W y = f (rd W x) :=
  ofBuf_of_toBuf ((h _ (Finset.mem_singleton_self _)).trans (unary_result _ _ _ _ _ _))

theorem Holds.binary {a : TRef sig Ta} {b : TRef sig Tb} {y : TRef sig T}
    {f : Ta.Contents Val → Tb.Contents Val → T.Contents Val} (h : Holds W (TRef.binary a b y f)) :
    rd W y = f (rd W a) (rd W b) :=
  ofBuf_of_toBuf ((h _ (Finset.mem_singleton_self _)).trans (binary_result _ _ _ _ _ _ _ _))

theorem Holds.ternary {c : TRef sig Tc} {a : TRef sig Ta} {b : TRef sig Tb} {y : TRef sig T}
    {f : Tc.Contents Val → Ta.Contents Val → Tb.Contents Val → T.Contents Val} (h : Holds W (TRef.ternary c a b y f)) :
    rd W y = f (rd W c) (rd W a) (rd W b) :=
  ofBuf_of_toBuf ((h _ (Finset.mem_singleton_self _)).trans (ternary_result _ _ _ _ _ _ _ _ _ _))

theorem reshape_cast {A B : BufTy} {s t : Shape} {e : EltTy} (hA : A = ⟨s, e⟩) (hB : B = ⟨t, e⟩) (he : A.elt = B.elt)
    (hn : A.shape.ShapeCasts B.shape) (hn' : s.ShapeCasts t) (u : A.Contents Val) :
    (fun i => he ▸ shapeCast B.shape u hn i : B.Contents Val)
      = cast (congrArg (fun U : BufTy => U.Contents Val) hB.symm)
          (show BufTy.Contents Val ⟨t, e⟩ from
            shapeCast t (show BufTy.Contents Val ⟨s, e⟩ from cast (congrArg (fun U : BufTy => U.Contents Val) hA) u) hn') := by
  subst hA hB; rfl

theorem Holds.reshape {s t : Shape} {e : EltTy} {x : TRef sig ⟨s, e⟩} {y : TRef sig ⟨t, e⟩} {hn : s.ShapeCasts t}
    (h : Holds W (TRef.reshape (Val := Val) x y rfl hn)) : rd W y = shapeCast t (rd W x) hn :=
  ofBuf_of_toBuf (((h _ (Finset.mem_singleton_self _)).trans (reshape_result _ _ _ _ _ _ _)).trans
    (reshape_cast x.ty_eq y.ty_eq _ _ hn _))

end Cert.Straight
-- ==== Proof.RefOps.lean ====
/- The reference as a list of operations.

   Each module-local function of the program is the list of its operations over its arguments and its buffers, and @main
   the list of all of them (`ops`), in the program's order. Each list run in order is the printed body (`…_eq`, `main_eq`),
   and the operations write the buffers in the order of the buffers' indices (`ops_steps`), which gives the program's run
   (`run`): each device's buffers end at contents at which every operation's equation holds, the arguments' unchanged. -/
module

public import proofs.«01_k».proof.Proof.Straight
public import proofs.«01_k».proof.Proof.Gen.ReferenceIdeal

@[expose] public section

noncomputable section

namespace Cert.RefOps

open Cert.ReferenceIdeal Cert.Straight
open Idealize.ShloMosaic Idealize.ShloMosaic.TcCoe Idealize.ShloMosaic.StableHlo Idealize.SL.Sem
open Facts₀ Facts

variable {F : FTy → Type} [FloatOps F] [Facts]

/-! ## The shapes of values, and a scalar spread over the rows -/

/-- A scalar at every row. -/
abbrev spread {α : Type} : (S_.Idx → α) → (S262144.Idx → α) := broadcastInDim S262144 ![] bcast_S_S262144

/-- A matrix of one row of 64 numbers per row of the batch. -/
abbrev mat (r : Ref sig .tc) (h : r.ty = ⟨S262144x64, .f32⟩ := by rfl) (h₁ : r.space ≠ .host := by decide)
    (h₂ : r.isScoped = false := by rfl) : TRef sig ⟨S262144x64, .f32⟩ := ⟨r, h, h₁, h₂⟩

/-- One number per row. -/
abbrev vec (r : Ref sig .tc) (h : r.ty = ⟨S262144, .f32⟩ := by rfl) (h₁ : r.space ≠ .host := by decide)
    (h₂ : r.isScoped = false := by rfl) : TRef sig ⟨S262144, .f32⟩ := ⟨r, h, h₁, h₂⟩

/-- One bit per row. -/
abbrev bit (r : Ref sig .tc) (h : r.ty = ⟨S262144, .i1⟩ := by rfl) (h₁ : r.space ≠ .host := by decide)
    (h₂ : r.isScoped = false := by rfl) : TRef sig ⟨S262144, .i1⟩ := ⟨r, h, h₁, h₂⟩

/-- One number. -/
abbrev num (r : Ref sig .tc) (h : r.ty = ⟨S_, .f32⟩ := by rfl) (h₁ : r.space ≠ .host := by decide)
    (h₂ : r.isScoped = false := by rfl) : TRef sig ⟨S_, .f32⟩ := ⟨r, h, h₁, h₂⟩

/-- One word. -/
abbrev word (r : Ref sig .tc) (h : r.ty = ⟨S_, .i32⟩ := by rfl) (h₁ : r.space ≠ .host := by decide)
    (h₂ : r.isScoped = false := by rfl) : TRef sig ⟨S_, .i32⟩ := ⟨r, h, h₁, h₂⟩

/-- A list of one word. -/
abbrev word1 (r : Ref sig .tc) (h : r.ty = ⟨S1, .i32⟩ := by rfl) (h₁ : r.space ≠ .host := by decide)
    (h₂ : r.isScoped = false := by rfl) : TRef sig ⟨S1, .i32⟩ := ⟨r, h, h₁, h₂⟩

/-! ## The module-local functions -/

local notation "Ops" => List (HloOp τ sig (Elt F))

/-- `a1` where `a0`, the scalar `a2` elsewhere. -/
def whereOps (a0 : TRef sig ⟨S262144, .i1⟩) (a1 : TRef sig ⟨S262144, .f32⟩) (a2 : TRef sig ⟨S_, .f32⟩) (φ : fn_where.Bufs) : Ops :=
  [ TRef.unary a2 φ.v0 id,
    TRef.unary φ.v0 φ.v1 spread,
    TRef.ternary a0 a1 φ.v1 φ.v2 select ]

/-- The scalar `a1` where `a0`, `a2` elsewhere. -/
def where0Ops (a0 : TRef sig ⟨S262144, .i1⟩) (a1 : TRef sig ⟨S_, .f32⟩) (a2 : TRef sig ⟨S262144, .f32⟩) (φ : fn_where_0.Bufs) : Ops :=
  [ TRef.unary a1 φ.v0 id,
    TRef.unary φ.v0 φ.v1 spread,
    TRef.ternary a0 φ.v1 a2 φ.v2 select ]

/-- `a0` cut off below at `a1` and above at `a2`. -/
def clipOps (a0 : TRef sig ⟨S262144, .f32⟩) (a1 a2 : TRef sig ⟨S_, .f32⟩) (φ : fn_clip.Bufs) : Ops :=
  [ TRef.unary a1 φ.v0 id,
    TRef.unary φ.v0 φ.v1 spread,
    TRef.binary φ.v1 a0 φ.v2 maximumf,
    TRef.unary a2 φ.v3 id,
    TRef.unary φ.v3 φ.v4 spread,
    TRef.binary φ.v4 φ.v2 φ.v5 minimumf ]

/-- One round of the cipher on the words `x₀`, `x₁`, rotating by `k`; its results are `s` and `y`. -/
def roundOps (k k' : BitVec 32) (x₀ x₁ s : TRef sig ⟨S262144, .i32⟩) (c : TRef sig ⟨S_, .i32⟩) (b l : TRef sig ⟨S262144, .i32⟩) (c' : TRef sig ⟨S_, .i32⟩) (b' r o y : TRef sig ⟨S262144, .i32⟩) : Ops :=
  [ TRef.binary x₀ x₁ s addi,
    TRef.nullary c (constantI S_ 32 k),
    TRef.unary c b spread,
    TRef.binary x₁ b l Host.shli,
    TRef.nullary c' (constantI S_ 32 k'),
    TRef.unary c' b' spread,
    TRef.binary x₁ b' r Host.shrui,
    TRef.binary l r o ori,
    TRef.binary s o y xori ]

/-- The key words `u`, `v` and the number `k` added to the words `x₀`, `x₁`; the results are `y₀` and `y₁`. -/
def injectOps (k : BitVec 32) (u v : TRef sig ⟨S_, .i32⟩) (x₀ x₁ b y₀ b' t : TRef sig ⟨S262144, .i32⟩) (c : TRef sig ⟨S_, .i32⟩) (b'' y₁ : TRef sig ⟨S262144, .i32⟩) : Ops :=
  [ TRef.unary u b spread,
    TRef.binary x₀ b y₀ addi,
    TRef.unary v b' spread,
    TRef.binary x₁ b' t addi,
    TRef.nullary c (constantI S_ 32 k),
    TRef.unary c b'' spread,
    TRef.binary t b'' y₁ addi ]

/-- The cipher's key schedule and its twenty rounds, under the key `a0`, `a1`, on the words `a2`, `a3`. -/
def threefryOps (a0 a1 : TRef sig ⟨S_, .i32⟩) (a2 a3 : TRef sig ⟨S262144, .i32⟩) (φ : fn_threefry2x32.Bufs) : Ops :=
  [ [TRef.binary a0 a1 φ.v0 xori, TRef.nullary φ.c (constantI S_ 32 466688986#32), TRef.binary φ.v0 φ.c φ.v1 xori,
      TRef.unary a0 φ.v2 spread, TRef.binary a2 φ.v2 φ.v3 addi, TRef.unary a1 φ.v4 spread, TRef.binary a3 φ.v4 φ.v5 addi],
    roundOps 13#32 19#32 φ.v3 φ.v5 φ.v6 φ.c_0 φ.v7 φ.v8 φ.c_1 φ.v9 φ.v10 φ.v11 φ.v12,
    roundOps 15#32 17#32 φ.v6 φ.v12 φ.v13 φ.c_2 φ.v14 φ.v15 φ.c_3 φ.v16 φ.v17 φ.v18 φ.v19,
    roundOps 26#32 6#32 φ.v13 φ.v19 φ.v20 φ.c_4 φ.v21 φ.v22 φ.c_5 φ.v23 φ.v24 φ.v25 φ.v26,
    roundOps 6#32 26#32 φ.v20 φ.v26 φ.v27 φ.c_6 φ.v28 φ.v29 φ.c_7 φ.v30 φ.v31 φ.v32 φ.v33,
    injectOps 1#32 a1 φ.v1 φ.v27 φ.v33 φ.v34 φ.v35 φ.v36 φ.v37 φ.c_8 φ.v38 φ.v39,
    roundOps 17#32 15#32 φ.v35 φ.v39 φ.v40 φ.c_9 φ.v41 φ.v42 φ.c_10 φ.v43 φ.v44 φ.v45 φ.v46,
    roundOps 29#32 3#32 φ.v40 φ.v46 φ.v47 φ.c_11 φ.v48 φ.v49 φ.c_12 φ.v50 φ.v51 φ.v52 φ.v53,
    roundOps 16#32 16#32 φ.v47 φ.v53 φ.v54 φ.c_13 φ.v55 φ.v56 φ.c_14 φ.v57 φ.v58 φ.v59 φ.v60,
    roundOps 24#32 8#32 φ.v54 φ.v60 φ.v61 φ.c_15 φ.v62 φ.v63 φ.c_16 φ.v64 φ.v65 φ.v66 φ.v67,
    injectOps 2#32 φ.v1 a0 φ.v61 φ.v67 φ.v68 φ.v69 φ.v70 φ.v71 φ.c_17 φ.v72 φ.v73,
    roundOps 13#32 19#32 φ.v69 φ.v73 φ.v74 φ.c_18 φ.v75 φ.v76 φ.c_19 φ.v77 φ.v78 φ.v79 φ.v80,
    roundOps 15#32 17#32 φ.v74 φ.v80 φ.v81 φ.c_20 φ.v82 φ.v83 φ.c_21 φ.v84 φ.v85 φ.v86 φ.v87,
    roundOps 26#32 6#32 φ.v81 φ.v87 φ.v88 φ.c_22 φ.v89 φ.v90 φ.c_23 φ.v91 φ.v92 φ.v93 φ.v94,
    roundOps 6#32 26#32 φ.v88 φ.v94 φ.v95 φ.c_24 φ.v96 φ.v97 φ.c_25 φ.v98 φ.v99 φ.v100 φ.v101,
    injectOps 3#32 a0 a1 φ.v95 φ.v101 φ.v102 φ.v103 φ.v104 φ.v105 φ.c_26 φ.v106 φ.v107,
    roundOps 17#32 15#32 φ.v103 φ.v107 φ.v108 φ.c_27 φ.v109 φ.v110 φ.c_28 φ.v111 φ.v112 φ.v113 φ.v114,
    roundOps 29#32 3#32 φ.v108 φ.v114 φ.v115 φ.c_29 φ.v116 φ.v117 φ.c_30 φ.v118 φ.v119 φ.v120 φ.v121,
    roundOps 16#32 16#32 φ.v115 φ.v121 φ.v122 φ.c_31 φ.v123 φ.v124 φ.c_32 φ.v125 φ.v126 φ.v127 φ.v128,
    roundOps 24#32 8#32 φ.v122 φ.v128 φ.v129 φ.c_33 φ.v130 φ.v131 φ.c_34 φ.v132 φ.v133 φ.v134 φ.v135,
    injectOps 4#32 a1 φ.v1 φ.v129 φ.v135 φ.v136 φ.v137 φ.v138 φ.v139 φ.c_35 φ.v140 φ.v141,
    roundOps 13#32 19#32 φ.v137 φ.v141 φ.v142 φ.c_36 φ.v143 φ.v144 φ.c_37 φ.v145 φ.v146 φ.v147 φ.v148,
    roundOps 15#32 17#32 φ.v142 φ.v148 φ.v149 φ.c_38 φ.v150 φ.v151 φ.c_39 φ.v152 φ.v153 φ.v154 φ.v155,
    roundOps 26#32 6#32 φ.v149 φ.v155 φ.v156 φ.c_40 φ.v157 φ.v158 φ.c_41 φ.v159 φ.v160 φ.v161 φ.v162,
    roundOps 6#32 26#32 φ.v156 φ.v162 φ.v163 φ.c_42 φ.v164 φ.v165 φ.c_43 φ.v166 φ.v167 φ.v168 φ.v169,
    injectOps 5#32 φ.v1 a0 φ.v163 φ.v169 φ.v170 φ.v171 φ.v172 φ.v173 φ.c_44 φ.v174 φ.v175 ].flatten

/-- The row numbers' two halves and the key's two words. -/
def counterOps (a0 : TRef sig ⟨S2, .i32⟩) (a1 a2 : TRef sig ⟨S_, .f32⟩) (φ : fn_uniform.Bufs) : Ops :=
  [ TRef.unary a1 φ.v0 id,
    TRef.unary a2 φ.v1 id,
    TRef.unary φ.v0 φ.v2 (broadcastInDim S1 ![] bcast_S_S1),
    TRef.unary φ.v1 φ.v3 (broadcastInDim S1 ![] bcast_S_S1),
    TRef.unary a0 φ.v4 (extractStridedSlice S1 ![0] · slices_S2_S1_0),
    TRef.reshape φ.v4 φ.v5 rfl shapeCasts_S1_S_,
    TRef.unary a0 φ.v6 (extractStridedSlice S1 ![1] · slices_S2_S1_1),
    TRef.reshape φ.v6 φ.v7 rfl shapeCasts_S1_S_,
    TRef.nullary φ.v8 (iotaInDim S262144 64 0),
    TRef.nullary φ.c (constantI S_ 64 1#64),
    TRef.unary φ.c φ.v9 spread,
    TRef.binary φ.v9 φ.v8 φ.v10 muli,
    TRef.nullary φ.c_0 (constantI S_ 64 32#64),
    TRef.unary φ.c_0 φ.v11 spread,
    TRef.binary φ.v10 φ.v11 φ.v12 Host.shrui,
    TRef.unary φ.v10 φ.v13 (trunci 32 · natLt_32_64),
    TRef.unary φ.v12 φ.v14 (trunci 32 · natLt_32_64) ]

/-- From the two random words a row has to its number between the bounds. -/
def scaleOps (φ : fn_uniform.Bufs) : Ops :=
  [ TRef.binary φ.call0.v171 φ.call0.v175 φ.v16 xori,
    TRef.nullary φ.c_1 (constantI S_ 32 9#32),
    TRef.unary φ.c_1 φ.v17 spread,
    TRef.binary φ.v16 φ.v17 φ.v18 Host.shrui,
    TRef.nullary φ.c_2 (constantI S_ 32 1065353216#32),
    TRef.unary φ.c_2 φ.v19 spread,
    TRef.binary φ.v18 φ.v19 φ.v20 ori,
    TRef.unary φ.v20 φ.v21 (bitcastToFloat .f32),
    TRef.nullary φ.cst (constant S_ .f32 0x3F800000#32),
    TRef.unary φ.cst φ.v22 spread,
    TRef.binary φ.v21 φ.v22 φ.v23 subf,
    TRef.binary φ.v3 φ.v2 φ.v24 subf,
    TRef.unary φ.v24 φ.v25 (broadcastInDim S262144 ![0] bcast_S1_S262144_0),
    TRef.binary φ.v23 φ.v25 φ.v26 mulf,
    TRef.unary φ.v2 φ.v27 (broadcastInDim S262144 ![0] bcast_S1_S262144_0),
    TRef.binary φ.v26 φ.v27 φ.v28 addf,
    TRef.unary φ.v2 φ.v29 (broadcastInDim S262144 ![0] bcast_S1_S262144_0),
    TRef.binary φ.v29 φ.v28 φ.v30 maximumf ]

/-- One random number per row between `a1` and `a2`, under the key `a0`. -/
def uniformOps (a0 : TRef sig ⟨S2, .i32⟩) (a1 a2 : TRef sig ⟨S_, .f32⟩) (φ : fn_uniform.Bufs) : Ops :=
  [counterOps a0 a1 a2 φ, threefryOps φ.v5 φ.v7 φ.v14 φ.v13 φ.call0, scaleOps φ].flatten

/-- One random bit per row, one with the probability `a1`. -/
def bernoulliOps (a0 : TRef sig ⟨S2, .i32⟩) (a1 : TRef sig ⟨S262144, .f32⟩) (φ : fn_bernoulli.Bufs) : Ops :=
  [ [TRef.nullary φ.cst (constant S_ .f32 0x00000000#32), TRef.nullary φ.cst_0 (constant S_ .f32 0x3F800000#32)],
    uniformOps a0 φ.cst φ.cst_0 φ.call0,
    [TRef.binary φ.call0.v30 a1 φ.v1 (cmpf .olt)] ].flatten

/-! ## @main -/

/-- The number `w` denotes, at every row. -/
def fillOps (w : BitVec 32) (c : TRef sig ⟨S_, .f32⟩) (y : TRef sig ⟨S262144, .f32⟩) : Ops := [TRef.nullary c (constant S_ .f32 w), TRef.unary c y spread]

/-- The matrix `x` with its column `i` replaced by `u`. -/
def setColumn (x : FVec F S262144x64 .f32) (i : IVec S1 32) (u : FVec F S262144 .f32) : FVec F S262144x64 .f32 :=
  Host.scatter scatter_S262144x64_S1_S262144_0_1_1_0 (fun _ b => b) x i u

/-- The index of the first column. -/
def firstOps (c : TRef sig ⟨S_, .i32⟩) (i : TRef sig ⟨S1, .i32⟩) : Ops :=
  [TRef.nullary c (constantI S_ 32 0#32), TRef.unary c i (broadcastInDim S1 ![] bcast_S_S1)]

/-- The two bounds of every row: the first column of the first argument less, and plus, that of the second. -/
def boundOps : Ops :=
  [ TRef.unary (mat main_arg0) (.of main_v0) (extractStridedSlice S262144x1 ![0, 0] · slices_S262144x64_S262144x1_0_0),
    TRef.reshape (.of main_v0 : TRef sig ⟨S262144x1, .f32⟩) (vec main_v1) rfl shapeCasts_S262144x1_S262144,
    TRef.unary (mat main_arg1) (.of main_v2) (extractStridedSlice S262144x1 ![0, 0] · slices_S262144x64_S262144x1_0_0),
    TRef.reshape (.of main_v2 : TRef sig ⟨S262144x1, .f32⟩) (vec main_v3) rfl shapeCasts_S262144x1_S262144,
    TRef.binary (vec main_v1) (vec main_v3) (vec main_v4) subf,
    TRef.binary (vec main_v1) (vec main_v3) (vec main_v5) addf ]

/-- The probability of the left part, and of the right part. -/
def probOps : Ops :=
  [ fillOps 0x00000000#32 (num main_cst) (vec main_v6),
    [TRef.binary (vec main_v5) (vec main_v6) (bit main_v7) (cmpf .ogt)],
    fillOps 0x00000000#32 (num main_cst_0) (vec main_v8),
    [ TRef.binary (vec main_v4) (vec main_v8) (bit main_v9) (cmpf .ole),
      TRef.binary (bit main_v7) (bit main_v9) (bit main_v10) andi,
      TRef.binary (vec main_v5) (vec main_v4) (vec main_v11) subf,
      TRef.nullary (num main_cst_1) (constant S_ .f32 0x3F800000#32) ],
    whereOps (bit main_v10) (vec main_v11) (num main_cst_1) main_call0,
    fillOps 0x00000000#32 (num main_cst_2) (vec main_v13),
    [TRef.binary (vec main_v5) (vec main_v13) (bit main_v14) (cmpf .ole)],
    fillOps 0x00000000#32 (num main_cst_3) (vec main_v15),
    [TRef.binary (vec main_v4) (vec main_v15) (bit main_v16) (cmpf .ogt)],
    fillOps 0x00000000#32 (num main_cst_4) (vec main_v17),
    [ TRef.binary (vec main_v17) (vec main_v4) (vec main_v18) subf,
      TRef.binary (vec main_v18) (vec main_v12) (vec main_v19) Host.divf,
      TRef.nullary (num main_cst_5) (constant S_ .f32 0x00000000#32) ],
    where0Ops (bit main_v16) (num main_cst_5) (vec main_v19) main_call1,
    [TRef.nullary (num main_cst_6) (constant S_ .f32 0x3F800000#32)],
    where0Ops (bit main_v14) (num main_cst_6) (vec main_v20) main_call2,
    [ TRef.nullary (num main_cst_7) (constant S_ .f32 0x00000000#32),
      TRef.nullary (num main_cst_8) (constant S_ .f32 0x3F800000#32) ],
    clipOps (vec main_v21) (num main_cst_7) (num main_cst_8) main_call3,
    fillOps 0x3F800000#32 (num main_cst_9) (vec main_v23),
    [TRef.binary (vec main_v23) (vec main_v22) (vec main_v24) subf] ].flatten

/-- The key of the random numbers: the two halves of the seed 42. -/
def keyOps : Ops :=
  [ TRef.nullary (word main_c) (constantI S_ 32 42#32),
    TRef.nullary (word main_c_10) (constantI S_ 32 32#32),
    TRef.binary (word main_c) (word main_c_10) (word main_v25) Host.shrui,
    TRef.unary (word main_v25) (word main_v26) id,
    TRef.unary (word main_v26) (word1 main_v27) (broadcastInDim S1 ![] bcast_S_S1),
    TRef.nullary (word main_c_11) (constantI S_ 32 4294967295#32),
    TRef.binary (word main_c) (word main_c_11) (word main_v28) andi,
    TRef.unary (word main_v28) (word main_v29) id,
    TRef.unary (word main_v29) (word1 main_v30) (broadcastInDim S1 ![] bcast_S_S1),
    TRef.binary (word1 main_v27) (word1 main_v30) (.of main_v31 : TRef sig ⟨S2, .i32⟩)
      (fun a b => concatenate S2 0 [⟨S1, a⟩, ⟨S1, b⟩] concatenates_S1_S1_S2_d0) ]

/-- The centres and half-widths of the two parts. -/
def splitOps : Ops :=
  [ [TRef.unary (bit main_v32) (bit main_v33) noti],
    fillOps 0x00000000#32 (num main_cst_12) (vec main_v34),
    [ TRef.binary (vec main_v5) (vec main_v34) (vec main_v35) minimumf,
      TRef.binary (vec main_v4) (vec main_v35) (vec main_v36) addf ],
    fillOps 0x40000000#32 (num main_cst_13) (vec main_v37),
    [ TRef.binary (vec main_v36) (vec main_v37) (vec main_v38) Host.divf,
      TRef.binary (vec main_v35) (vec main_v4) (vec main_v39) subf ],
    fillOps 0x40000000#32 (num main_cst_14) (vec main_v40),
    [TRef.binary (vec main_v39) (vec main_v40) (vec main_v41) Host.divf],
    fillOps 0x00000000#32 (num main_cst_15) (vec main_v42),
    [ TRef.binary (vec main_v4) (vec main_v42) (vec main_v43) maximumf,
      TRef.binary (vec main_v43) (vec main_v5) (vec main_v44) addf ],
    fillOps 0x40000000#32 (num main_cst_16) (vec main_v45),
    [ TRef.binary (vec main_v44) (vec main_v45) (vec main_v46) Host.divf,
      TRef.binary (vec main_v5) (vec main_v43) (vec main_v47) subf ],
    fillOps 0x40000000#32 (num main_cst_17) (vec main_v48),
    [TRef.binary (vec main_v47) (vec main_v48) (vec main_v49) Host.divf] ].flatten

/-- The four results that are the arguments with a new first column. -/
def placeOps : Ops :=
  [ firstOps (word main_c_18) (word1 main_v50), [ternary main_arg0 main_v50 main_v38 main_v51 setColumn],
    firstOps (word main_c_19) (word1 main_v52), [ternary main_arg1 main_v52 main_v41 main_v53 setColumn],
    firstOps (word main_c_20) (word1 main_v54), [ternary main_arg0 main_v54 main_v46 main_v55 setColumn],
    firstOps (word main_c_21) (word1 main_v56), [ternary main_arg1 main_v56 main_v49 main_v57 setColumn] ].flatten

/-- The probability `p` cut off below, its logarithm added to the third argument. -/
def massOps (p : TRef sig ⟨S262144, .f32⟩) (c : TRef sig ⟨S_, .f32⟩) (b x l y : TRef sig ⟨S262144, .f32⟩) : Ops :=
  [ fillOps 0x2B8CBCCC#32 c b,
    [TRef.binary p b x maximumf, TRef.unary x l Host.log, TRef.binary (vec main_arg2) l y addf] ].flatten

/-- The two results that are the third argument plus a logarithm, and the two that are the random bit and its
    complement. -/
def weighOps : Ops :=
  [ massOps (vec main_v22) (num main_cst_22) (vec main_v58) (vec main_v59) (vec main_v60) (vec main_v61),
    massOps (vec main_v24) (num main_cst_23) (vec main_v62) (vec main_v63) (vec main_v64) (vec main_v65),
    [ TRef.unary (bit main_v32) (vec main_v66) (uitofp .f32),
      TRef.unary (bit main_v33) (vec main_v67) (uitofp .f32) ] ].flatten

/-- Every operation of @main, in order. -/
def ops : Ops :=
  [ boundOps, probOps, keyOps, bernoulliOps (.of main_v31) (vec main_v22) main_call4, splitOps, placeOps,
    weighOps ].flatten

/-! ## The lists run are the printed bodies -/

set_option maxRecDepth 65536 in
theorem threefry_eq (a0 a1 : TRef sig ⟨S_, .i32⟩) (a2 a3 : TRef sig ⟨S262144, .i32⟩) (φ : fn_threefry2x32.Bufs) :
    fn_threefry2x32.body (F := F) a0 a1 a2 a3 φ = seq (threefryOps a0 a1 a2 a3 φ) := rfl

set_option maxRecDepth 65536 in
theorem uniform_eq (a0 : TRef sig ⟨S2, .i32⟩) (a1 a2 : TRef sig ⟨S_, .f32⟩) (φ : fn_uniform.Bufs) :
    fn_uniform.body (F := F) a0 a1 a2 φ = seq (uniformOps a0 a1 a2 φ) := rfl

set_option maxRecDepth 65536 in
theorem main_eq (d : Dev nD) : main (F := F) d = seq ops := rfl

/-! ## The order of the writes -/

/-- A buffer's position: its index. -/
def pos (r : Ref sig .tc) : ℕ := r.idx.val

set_option maxRecDepth 65536 in
/-- The operations write the buffers after the three arguments', in the order of their indices, each from earlier
    ones. -/
theorem ops_steps : Steps pos 3 (ops (F := F)) 367 := by
  simp only [ops, boundOps, probOps, keyOps, bernoulliOps, uniformOps, counterOps, threefryOps, scaleOps, splitOps, placeOps,
    weighOps, massOps, fillOps, firstOps, roundOps, injectOps, whereOps, where0Ops, clipOps, List.flatten_cons,
    List.flatten_nil, List.cons_append, List.nil_append]
  repeat' first
    | exact Steps.nil
    | refine And.intro (step_unary rfl (by decide)) ?_
    | refine And.intro (step_binary rfl (by decide) (by decide)) ?_
    | refine And.intro (step_nullary rfl) ?_
    | refine And.intro (step_reshape rfl (by decide)) ?_
    | refine And.intro (step_ternary rfl (by decide) (by decide) (by decide)) ?_

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every device's buffers end at contents at which every operation's equation holds, and the arguments are unchanged. -/
theorem run (m : (ℓ : Loc nD τ sig) → Buf (Elt F) ℓ) (ρ : Dev nD → PrngReg) :
    θ_run (defs (F := F)) (onTc (τ := τ) main) ⟨m, fun _ => 0, ρ⟩ fun r => ∀ d : Dev nD,
      ∃ W : Valuation τ sig (Elt F), HoldsAll W (ops (F := F))
        ∧ (∀ b : Ref sig .tc, r.2.mem ((d.tc : Thread nD τ).loc b) = W (Proc.devRef .tc b))
        ∧ ∀ b : Ref sig .tc, pos b < 3 → W (Proc.devRef .tc b) = m ((d.tc : Thread nD τ).loc b) :=
  (θ_run defs _ _).mono (fun _ h d => ⟨_, holds_after ops_steps _, h d, fun b hb => after_of_lt ops_steps _ b hb⟩)
    (run_seq scopedRefs_eq scopedSems_eq defs main (fun _ => ops) main_eq
      (fun _ => List.forall_iff_forall_mem.mpr fun op h => (ops_steps.all op h).1) m ρ
      fun _ op h => (ops_steps.all op h).2)

end Cert.RefOps

end
-- ==== Proof.RefWords.lean ====
/- The random words of the reference: at every row, the words its cipher's operations leave are those of `Words.bits`. -/
module

public import proofs.«01_k».proof.Proof.RefOps
public import proofs.«01_k».proof.Proof.Words
public import Idealize.ShloMosaic.Lib.ValueIdxCore

@[expose] public section

noncomputable section

namespace Cert.RefWords

open Cert.ReferenceIdeal Cert.Straight Cert.RefOps Cert.Words
open Idealize.ShloMosaic Idealize.ShloMosaic.TcCoe Idealize.ShloMosaic.StableHlo
open Facts₀ Facts

variable {F : FTy → Type} [FloatOps F] [Facts] {W : Valuation τ sig (Elt F)}

/-- The word `W` holds for row `i`. -/
def wordAt (W : Valuation τ sig (Elt F)) (x : TRef sig ⟨S262144, .i32⟩) (i : S262144.Idx) : BitVec 32 := rd W x i

/-- The single word `W` holds. -/
def wordOf (W : Valuation τ sig (Elt F)) (x : TRef sig ⟨S_, .i32⟩) : BitVec 32 := rd W x fun a => a.elim0

/-- Rows `i` of two buffers hold the pair `p`. -/
def PairAt (W : Valuation τ sig (Elt F)) (x y : TRef sig ⟨S262144, .i32⟩) (i : S262144.Idx) (p : BitVec 32 × BitVec 32) : Prop :=
  wordAt W x i = p.1 ∧ wordAt W y i = p.2

theorem spread_apply {α : Type} (x : S_.Idx → α) (i : S262144.Idx) : spread x i = x fun a => a.elim0 :=
  congrArg x (funext fun a => a.elim0)

/-- A round's operations take the pair `p` to `mix k k' p`. -/
theorem round_at {k k' : BitVec 32} (hk : k.toNat < 32) (hk' : k'.toNat < 32) {x₀ x₁ s c b l c' b' r o y} {i : S262144.Idx}
    {p : BitVec 32 × BitVec 32} (h : HoldsAll W (roundOps (F := F) k k' x₀ x₁ s c b l c' b' r o y)) (hp : PairAt W x₀ x₁ i p) :
    PairAt W s y i (mix k k' p) := by
  obtain ⟨es, ec, eb, el, ec', eb', er, eo, ey, -⟩ := h
  obtain ⟨h₀, h₁⟩ := hp
  have hs : wordAt W s i = (mix k k' p).1 := by
    unfold wordAt at *
    rw [es.binary]
    exact congrArg₂ (· + ·) h₀ h₁
  refine ⟨hs, ?_⟩
  have hl : wordAt W l i = p.2 <<< k := by
    unfold wordAt at *
    rw [el.binary, eb.unary, ec.nullary]
    exact (if_pos hk).trans (congrArg (· <<< k) h₁)
  have hr : wordAt W r i = p.2 >>> k' := by
    unfold wordAt at *
    rw [er.binary, eb'.unary, ec'.nullary]
    exact (if_pos hk').trans (congrArg (· >>> k') h₁)
  have ho : wordAt W o i = p.2 <<< k ||| p.2 >>> k' := by
    unfold wordAt at *
    rw [eo.binary]
    exact congrArg₂ (· ||| ·) hl hr
  unfold wordAt at *
  rw [ey.binary]
  exact congrArg₂ (· ^^^ ·) hs ho

/-- The operations that add key words take the pair `p` to `inject`. -/
theorem inject_at {k ku kv : BitVec 32} {u v x₀ x₁ b y₀ b' t c b'' y₁} {i : S262144.Idx} {p : BitVec 32 × BitVec 32}
    (h : HoldsAll W (injectOps (F := F) k u v x₀ x₁ b y₀ b' t c b'' y₁)) (hu : wordOf W u = ku) (hv : wordOf W v = kv)
    (hp : PairAt W x₀ x₁ i p) : PairAt W y₀ y₁ i (inject ku kv k p) := by
  obtain ⟨eb, ey₀, eb', et, ec, eb'', ey₁, -⟩ := h
  obtain ⟨h₀, h₁⟩ := hp
  have hb : wordAt W b i = ku := by
    unfold wordAt
    rw [eb.unary]
    exact (spread_apply _ i).trans hu
  have hb' : wordAt W b' i = kv := by
    unfold wordAt
    rw [eb'.unary]
    exact (spread_apply _ i).trans hv
  have ht : wordAt W t i = p.2 + kv := by
    unfold wordAt at *
    rw [et.binary]
    exact congrArg₂ (· + ·) h₁ hb'
  constructor
  · unfold wordAt at *
    rw [ey₀.binary]
    exact congrArg₂ (· + ·) h₀ hb
  · unfold wordAt at *
    rw [ey₁.binary, eb''.unary, ec.nullary]
    exact congrArg (· + k) ht

/-- The cipher's operations, under the key words `k₀` and `k₁`, on the pair `(x₀, x₁)`. -/
theorem threefry_at {k₀ k₁ w₀ w₁ : BitVec 32} {a0 a1 a2 a3} {φ : fn_threefry2x32.Bufs} {i : S262144.Idx}
    (h : HoldsAll W (threefryOps (F := F) a0 a1 a2 a3 φ)) (h₀ : wordOf W a0 = k₀) (h₁ : wordOf W a1 = k₁)
    (e₀ : wordAt W a2 i = w₀) (e₁ : wordAt W a3 i = w₁) :
    PairAt W φ.v171 φ.v175 i (cipher k₀ k₁ (k₀ ^^^ k₁ ^^^ 466688986#32) (w₀ + k₀, w₁ + k₁)) := by
  unfold threefryOps at h
  simp only [List.flatten_cons, List.flatten_nil, List.append_nil, holdsAll_append] at h
  obtain ⟨⟨f0, f1, f2, f3, f4, f5, f6, -⟩, r1, r2, r3, r4, j1, r5, r6, r7, r8, j2, r9, r10, r11, r12, j3, r13, r14, r15, r16, j4,
    r17, r18, r19, r20, j5⟩ := h
  have h₂ : wordOf W φ.v1 = k₀ ^^^ k₁ ^^^ 466688986#32 := by
    unfold wordOf at *
    rw [f2.binary, f1.nullary, f0.binary]
    exact congrArg (· ^^^ _) (congrArg₂ (· ^^^ ·) h₀ h₁)
  have s : PairAt W φ.v3 φ.v5 i (w₀ + k₀, w₁ + k₁) := by
    constructor
    · unfold wordAt at *
      rw [f4.binary, f3.unary]
      exact congrArg₂ (· + ·) e₀ ((spread_apply _ i).trans h₀)
    · unfold wordAt at *
      rw [f6.binary, f5.unary]
      exact congrArg₂ (· + ·) e₁ ((spread_apply _ i).trans h₁)
  have s := round_at (by decide) (by decide) r4 (round_at (by decide) (by decide) r3 (round_at (by decide) (by decide) r2
    (round_at (by decide) (by decide) r1 s)))
  have s := inject_at j1 h₁ h₂ s
  have s := round_at (by decide) (by decide) r8 (round_at (by decide) (by decide) r7 (round_at (by decide) (by decide) r6
    (round_at (by decide) (by decide) r5 s)))
  have s := inject_at j2 h₂ h₀ s
  have s := round_at (by decide) (by decide) r12 (round_at (by decide) (by decide) r11 (round_at (by decide) (by decide) r10
    (round_at (by decide) (by decide) r9 s)))
  have s := inject_at j3 h₀ h₁ s
  have s := round_at (by decide) (by decide) r16 (round_at (by decide) (by decide) r15 (round_at (by decide) (by decide) r14
    (round_at (by decide) (by decide) r13 s)))
  have s := inject_at j4 h₁ h₂ s
  have s := round_at (by decide) (by decide) r20 (round_at (by decide) (by decide) r19 (round_at (by decide) (by decide) r18
    (round_at (by decide) (by decide) r17 s)))
  exact inject_at j5 h₂ h₀ s

end Cert.RefWords
-- ==== Proof.RefRandom.lean ====
/- The random bits of the reference: at every row, whether the random number of the row's `Words.draw` is below the row's
   probability. -/
module

public import proofs.«01_k».proof.Proof.RefWords
public import proofs.«01_k».proof.Proof.Row

@[expose] public section

noncomputable section

namespace Cert.RefRandom

open Cert.ReferenceIdeal Cert.Straight Cert.RefOps Cert.RefWords
open Idealize.ShloMosaic Idealize.ShloMosaic.TcCoe Idealize.ShloMosaic.StableHlo Idealize.ShloMosaic.ValueIdx
open Facts₀ Facts

variable [Facts] {W : Valuation τ sig (Elt Ideal)}

/-- The number `W` holds for row `i`. -/
def numAt (W : Valuation τ sig (Elt Ideal)) (x : TRef sig ⟨S262144, .f32⟩) (i : S262144.Idx) : Row.R := rd W x i

/-- The single number `W` holds. -/
def numOf (W : Valuation τ sig (Elt Ideal)) (x : TRef sig ⟨S_, .f32⟩) : Row.R := rd W x fun a => a.elim0

/-- The bit `W` holds for row `i`. -/
def bitAt (W : Valuation τ sig (Elt Ideal)) (x : TRef sig ⟨S262144, .i1⟩) (i : S262144.Idx) : BitVec 1 := rd W x i

/-- The number of a row, as a word. -/
def rowWord (i : S262144.Idx) : BitVec 32 := BitVec.ofNat 32 (i 0).val

/-- The key is the pair of words 0 and 42. -/
theorem key_at (h : HoldsAll W (keyOps (F := Ideal))) :
    rd W (.of main_v31 : TRef sig ⟨S2, .i32⟩) = fun j => if (j 0).val = 0 then 0#32 else 42#32 := by
  obtain ⟨e1, e2, e3, e4, e5, e6, e7, e8, e9, e10, -⟩ := h
  have h27 : rd W (word1 main_v27) = fun _ => 0#32 := by
    rw [e5.unary, e4.unary, e3.binary, e1.nullary, e2.nullary]
    rfl
  have h30 : rd W (word1 main_v30) = fun _ => 42#32 := by
    rw [e9.unary, e8.unary, e7.binary, e1.nullary, e6.nullary]
    exact funext fun _ => show 42#32 &&& 4294967295#32 = 42#32 by decide
  rw [e10.binary, h27, h30]
  funext j
  obtain ⟨n, rfl⟩ : ∃ n : Fin 2, j = ix1 n := ⟨j 0, eq_ix1 j⟩
  fin_cases n <;> rfl

/-- A row's number, taken in 64 bits and split in halves: nothing above, the number's word below. -/
theorem halves (n : ℕ) (hn : n < 262144) :
    (1#64 * BitVec.ofNat 64 n).setWidth 32 = BitVec.ofNat 32 n
      ∧ ((1#64 * BitVec.ofNat 64 n) >>> 32#64).setWidth 32 = 0#32 := by
  constructor <;> apply BitVec.eq_of_toNat_eq
  · simp
  · simp [Nat.mod_eq_of_lt (show n < 18446744073709551616 by omega), Nat.shiftRight_eq_div_pow]
    omega

/-- A host shift by less than the width, at an index. -/
theorem shrui_apply {s : Shape} {w : ℕ} (x y : IVec s w) (i : s.Idx) (h : (y i).toNat < w) : Host.shrui x y i = x i >>> y i :=
  if_pos h

/-- The uniform numbers' operations: row `i` gets the random number of its `draw`, scaled to the bounds and cut off
    below. -/
theorem uniform_at {a0 a1 a2} {φ : fn_uniform.Bufs} {l u : Row.R} (h : HoldsAll W (uniformOps (F := Ideal) a0 a1 a2 φ))
    (hk : rd W a0 = fun j => if (j 0).val = 0 then 0#32 else 42#32) (hl : numOf W a1 = l) (hu : numOf W a2 = u) (i : S262144.Idx) :
    numAt W φ.v30 i
      = FloatOps.maximumf l (FloatOps.addf (FloatOps.mulf (Row.random (rowWord i)) (FloatOps.subf u l)) l) := by
  unfold uniformOps at h
  simp only [List.flatten_cons, List.flatten_nil, List.append_nil, holdsAll_append] at h
  obtain ⟨⟨c1, c2, c3, c4, c5, c6, c7, c8, c9, c10, c11, c12, c13, c14, c15, c16, c17, -⟩, ht,
    ⟨s1, s2, s3, s4, s5, s6, s7, s8, s9, s10, s11, s12, s13, s14, s15, s16, s17, s18, -⟩⟩ := h
  have hi := halves (i 0).val (i 0).isLt
  have k0 : wordOf W φ.v5 = 0#32 := by
    unfold wordOf
    rw [c6.reshape, c5.unary, hk]
    rfl
  have h6 : rd W φ.v6 = fun _ => 42#32 := by
    rw [c7.unary, hk]
    exact funext fun j => if_neg (show ¬ (1 + (j 0).val = 0) by omega)
  have k1 : wordOf W φ.v7 = 42#32 := by
    unfold wordOf
    rw [c8.reshape, h6]
    rfl
  have w13 : wordAt W φ.v13 i = rowWord i := by
    unfold wordAt
    rw [c16.unary, c12.binary, c11.unary, c10.nullary, c9.nullary]
    exact hi.1
  have w14 : wordAt W φ.v14 i = 0#32 := by
    unfold wordAt
    rw [c17.unary, c15.binary, c14.unary, c13.nullary, c12.binary, c11.unary, c10.nullary, c9.nullary]
    refine (congrArg (BitVec.setWidth 32) (shrui_apply _ _ i ?_)).trans hi.2
    show (32#64).toNat < 64
    decide
  have hc := threefry_at ht k0 k1 w14 w13
  rw [show 0#32 ^^^ 42#32 ^^^ 466688986#32 = Words.key₂ by decide, show 0#32 + 0#32 = 0#32 by decide] at hc
  obtain ⟨x0, x1⟩ := hc
  have hb : wordAt W φ.v16 i = Words.bits (rowWord i) := by
    unfold wordAt at *
    rw [s1.binary]
    unfold Words.bits
    rw [← x0, ← x1]
    rfl
  have hd : wordAt W φ.v20 i = Words.draw (rowWord i) := by
    unfold wordAt at *
    rw [s7.binary, s6.unary, s5.nullary, s4.binary, s3.unary, s2.nullary]
    exact congrArg (fun b => b >>> 9#32 ||| 1065353216#32) hb
  have hr : numAt W φ.v23 i = Row.random (rowWord i) := by
    unfold numAt
    rw [s11.binary, s10.unary, s9.nullary, s8.unary]
    exact congrArg (fun b => FloatOps.subf (Row.lit b) _) hd
  have h2 : ∀ j, rd W φ.v2 j = l := fun j => by
    rw [c3.unary, c1.unary]
    exact (congrArg (rd W a1) (funext fun a => a.elim0)).trans hl
  have h3 : ∀ j, rd W φ.v3 j = u := fun j => by
    rw [c4.unary, c2.unary]
    exact (congrArg (rd W a2) (funext fun a => a.elim0)).trans hu
  unfold numAt at *
  rw [s18.binary, s17.unary, s16.binary, s15.unary, s14.binary, s13.unary, s12.binary]
  refine congrArg₂ (FloatOps.maximumf (F := Ideal)) (h2 _) (congrArg₂ (FloatOps.addf (F := Ideal)) (congrArg₂ (FloatOps.mulf (F := Ideal)) hr ?_) (h2 _))
  exact congrArg₂ (FloatOps.subf (F := Ideal)) (h3 _) (h2 _)

end Cert.RefRandom
-- ==== Proof.RefRows.lean ====
/- The reference's results: contents at which every one of its operations' equations holds have the eight results of
   `Batch` in its result buffers. -/
module

public import proofs.«01_k».proof.Proof.RefRandom
public import proofs.«01_k».proof.Proof.RowFacts
public import proofs.«01_k».proof.Proof.Batch
public import Idealize.ShloMosaic.Lib.Routing.OpsOne
public import Idealize.ShloMosaic.Lib.Pipeline.Value

@[expose] public section

noncomputable section

namespace Cert.RefRows

open Cert.ReferenceIdeal Cert.Straight Cert.RefOps Cert.RefWords Cert.RefRandom
open Idealize.ShloMosaic Idealize.ShloMosaic.TcCoe Idealize.ShloMosaic.StableHlo Idealize.ShloMosaic.ValueIdx
open Facts₀ Facts

variable [Facts] {W : Valuation τ sig (Elt Ideal)}

/-! ## The module-local functions and the repeated groups, at a row -/

theorem fill_at {w : BitVec 32} {c y} (h : HoldsAll W (fillOps (F := Ideal) w c y)) (i : S262144.Idx) : numAt W y i = Row.lit w := by
  obtain ⟨ec, ey, -⟩ := h
  unfold numAt
  rw [ey.unary, ec.nullary]
  rfl

theorem where_at {a0 a1 a2 φ} (h : HoldsAll W (whereOps (F := Ideal) a0 a1 a2 φ)) (i : S262144.Idx) :
    numAt W φ.v2 i = Scalar.select (bitAt W a0 i) (numAt W a1 i) (numOf W a2) := by
  obtain ⟨e0, e1, e2, -⟩ := h
  unfold numAt numOf
  rw [e2.ternary, e1.unary, e0.unary]
  exact congrArg (Scalar.select _ _) (spread_apply _ i)

theorem where0_at {a0 a1 a2 φ} (h : HoldsAll W (where0Ops (F := Ideal) a0 a1 a2 φ)) (i : S262144.Idx) :
    numAt W φ.v2 i = Scalar.select (bitAt W a0 i) (numOf W a1) (numAt W a2 i) := by
  obtain ⟨e0, e1, e2, -⟩ := h
  unfold numAt numOf
  rw [e2.ternary, e1.unary, e0.unary]
  exact congrArg (fun z => Scalar.select _ z _) (spread_apply _ i)

theorem clip_at {a0 a1 a2 φ} (h : HoldsAll W (clipOps (F := Ideal) a0 a1 a2 φ)) (i : S262144.Idx) :
    numAt W φ.v5 i = FloatOps.minimumf (numOf W a2) (FloatOps.maximumf (numOf W a1) (numAt W a0 i)) := by
  obtain ⟨e0, e1, e2, e3, e4, e5, -⟩ := h
  unfold numAt numOf
  rw [e5.binary, e4.unary, e3.unary, e2.binary, e1.unary, e0.unary]
  exact congrArg₂ FloatOps.minimumf (spread_apply _ i) (congrArg (FloatOps.maximumf · _) (spread_apply _ i))

/-- A vector's column set in a matrix: the vector down the first column, the matrix elsewhere. -/
theorem setColumn_first (x : FVec Ideal S262144x64 .f32) (v : IVec S1 32) (hv : v = fun _ => 0#32) (u : FVec Ideal S262144 .f32) :
    setColumn x v u = Batch.setFirst x fun n => u (ix1 n) := by
  funext j
  obtain ⟨n, k, rfl⟩ : ∃ (n : Fin 262144) (k : Fin 64), j = ix2 n k := ⟨j 0, j 1, eq_ix2 j⟩
  have hi : (v (ix1 0)).toInt = ((0 : Fin 64).val : Int) := by rw [hv]; rfl
  have lands := Routing.lands_col scatter_S262144x64_S1_S262144_0_1_1_0 rfl rfl v (0 : Fin 64) hi
  unfold setColumn
  by_cases h : k = 0
  · subst h
    refine (Routing.scatter_set_hit _ x v u _ (u (ix1 n)) (fun j hj => ?_) (ix1 n) ((lands n n 0).2 ⟨rfl, rfl⟩)).trans (if_pos rfl).symm
    have := (lands (j 0) n 0).1 ((congrArg (fun t => ScatterDims.resultIdx? _ t v) (eq_ix1 j).symm).trans hj)
    exact (congrArg u (eq_ix1 j)).trans (congrArg (fun t => u (ix1 t)) this.1)
  · refine (Routing.scatter_set_miss _ x v u _ fun j hj => ?_).trans (if_neg fun e => h (Fin.ext e)).symm
    exact h ((lands (j 0) n k).1 ((congrArg (fun t => ScatterDims.resultIdx? _ t v) (eq_ix1 j).symm).trans hj)).2

theorem first_at {c i} (h : HoldsAll W (firstOps (F := Ideal) c i)) : rd W i = fun _ => 0#32 := by
  obtain ⟨ec, ei, -⟩ := h
  rw [ei.unary, ec.nullary]
  rfl

/-! ## @main -/

/-- The arguments' contents. -/
abbrev argA (W : Valuation τ sig (Elt Ideal)) : Batch.Mat := W main_arg0
abbrev argD (W : Valuation τ sig (Elt Ideal)) : Batch.Mat := W main_arg1
abbrev argP (W : Valuation τ sig (Elt Ideal)) : Batch.Col := W main_arg2

/-- The first column of a matrix, as a vector, at a row. -/
theorem column_apply (X : Batch.Mat) (i : S262144.Idx) :
    shapeCast S262144 (extractStridedSlice S262144x1 ![0, 0] X slices_S262144x64_S262144x1_0_0) shapeCasts_S262144x1_S262144 i
      = X (ix2 (i 0) (0 : Fin 64)) := by
  refine (shapeCast_apply _ shapeCasts_S262144x1_S262144 i (ix2 (i 0) (0 : Fin 1)) ?_).trans (congrArg X ?_)
  · refine (Shape.rowMajor_val_two _).trans (Eq.trans ?_ (Shape.rowMajor_val_one i).symm)
    show (i 0).val * 1 + 0 = (i 0).val
    omega
  funext a
  match a with
  | ⟨0, _⟩ => exact Fin.ext (Nat.zero_add _)
  | ⟨1, _⟩ => rfl

theorem bounds_at (h : HoldsAll W (boundOps (F := Ideal))) (i : S262144.Idx) :
    numAt W (vec main_v4) i = Batch.lo (argA W) (argD W) (i 0) ∧ numAt W (vec main_v5) i = Batch.hi (argA W) (argD W) (i 0) := by
  obtain ⟨e1, e2, e3, e4, e5, e6, -⟩ := h
  have h1 : rd W (vec main_v1) i = argA W (ix2 (i 0) (0 : Fin 64)) := by
    rw [e2.reshape, e1.unary]
    exact column_apply _ i
  have h3 : rd W (vec main_v3) i = argD W (ix2 (i 0) (0 : Fin 64)) := by
    rw [e4.reshape, e3.unary]
    exact column_apply _ i
  unfold numAt
  rw [e5.binary, e6.binary]
  exact ⟨congrArg₂ Row.lower h1 h3, congrArg₂ Row.upper h1 h3⟩

theorem prob_at (h : HoldsAll W (probOps (F := Ideal))) (i : S262144.Idx) {l u : Row.R} (hl : numAt W (vec main_v4) i = l)
    (hu : numAt W (vec main_v5) i = u) :
    numAt W (vec main_v22) i = Row.prob l u ∧ numAt W (vec main_v24) i = Row.rest l u := by
  unfold probOps at h
  simp only [List.flatten_cons, List.flatten_nil, List.append_nil, holdsAll_append] at h
  obtain ⟨f6, ⟨e7, -⟩, f8, ⟨e9, e10, e11, e1, -⟩, w0, f13, ⟨e14, -⟩, f15, ⟨e16, -⟩, f17, ⟨e18, e19, e5, -⟩, w1, ⟨e6, -⟩, w2,
    ⟨e7', e8', -⟩, cl, f23, ⟨e24, -⟩⟩ := h
  have h7 : bitAt W (bit main_v7) i = FloatOps.cmpf .ogt u (Row.lit 0x00000000#32) :=
    (congrFun e7.binary i).trans (congrArg₂ (FloatOps.cmpf (F := Ideal) .ogt) hu (fill_at f6 i))
  have h9 : bitAt W (bit main_v9) i = FloatOps.cmpf .ole l (Row.lit 0x00000000#32) :=
    (congrFun e9.binary i).trans (congrArg₂ (FloatOps.cmpf (F := Ideal) .ole) hl (fill_at f8 i))
  have h10 : bitAt W (bit main_v10) i = FloatOps.cmpf .ogt u (Row.lit 0x00000000#32) &&& FloatOps.cmpf .ole l (Row.lit 0x00000000#32) :=
    (congrFun e10.binary i).trans (congrArg₂ (· &&& ·) h7 h9)
  have h11 : numAt W (vec main_v11) i = FloatOps.subf u l := (congrFun e11.binary i).trans (congrArg₂ (FloatOps.subf (F := Ideal)) hu hl)
  have k1 : numOf W (num main_cst_1) = Row.lit 0x3F800000#32 := congrFun e1.nullary _
  have h12 : numAt W (vec main_v12) i = Row.width l u := by
    have := where_at w0 i
    rw [h10, h11, k1] at this
    exact this
  have h14 : bitAt W (bit main_v14) i = FloatOps.cmpf .ole u (Row.lit 0x00000000#32) :=
    (congrFun e14.binary i).trans (congrArg₂ (FloatOps.cmpf (F := Ideal) .ole) hu (fill_at f13 i))
  have h16 : bitAt W (bit main_v16) i = FloatOps.cmpf .ogt l (Row.lit 0x00000000#32) :=
    (congrFun e16.binary i).trans (congrArg₂ (FloatOps.cmpf (F := Ideal) .ogt) hl (fill_at f15 i))
  have h18 : numAt W (vec main_v18) i = FloatOps.subf (Row.lit 0x00000000#32) l :=
    (congrFun e18.binary i).trans (congrArg₂ (FloatOps.subf (F := Ideal)) (fill_at f17 i) hl)
  have h19 : numAt W (vec main_v19) i = FloatOps.divf (FloatOps.subf (Row.lit 0x00000000#32) l) (Row.width l u) :=
    (congrFun e19.binary i).trans (congrArg₂ (FloatOps.divf (F := Ideal)) h18 h12)
  have k5 : numOf W (num main_cst_5) = Row.lit 0x00000000#32 := congrFun e5.nullary _
  have k6 : numOf W (num main_cst_6) = Row.lit 0x3F800000#32 := congrFun e6.nullary _
  have h20 := where0_at w1 i
  rw [h16, k5, h19] at h20
  have h21 : numAt W (vec main_v21) i = Row.share l u := by
    have := where0_at w2 i
    rw [h14, k6] at this
    exact this.trans (congrArg (Scalar.select _ _) h20)
  have k7 : numOf W (num main_cst_7) = Row.lit 0x00000000#32 := congrFun e7'.nullary _
  have k8 : numOf W (num main_cst_8) = Row.lit 0x3F800000#32 := congrFun e8'.nullary _
  have h22 : numAt W (vec main_v22) i = Row.prob l u := by
    have := clip_at cl i
    rw [h21, k7, k8] at this
    exact this
  exact ⟨h22, (congrFun e24.binary i).trans (congrArg₂ (FloatOps.subf (F := Ideal)) (fill_at f23 i) h22)⟩

theorem bernoulli_at (hk : HoldsAll W (keyOps (F := Ideal))) (h : HoldsAll W (bernoulliOps (F := Ideal) (.of main_v31) (vec main_v22) main_call4))
    (i : S262144.Idx) {p : Row.R} (hp : numAt W (vec main_v22) i = p) :
    bitAt W (bit main_v32) i = Row.coin (rowWord i) p := by
  unfold bernoulliOps at h
  simp only [List.flatten_cons, List.flatten_nil, List.append_nil, holdsAll_append] at h
  obtain ⟨⟨e0, e1, -⟩, hu, e2, -⟩ := h
  have h30 := uniform_at hu (key_at hk) (congrFun e0.nullary _) (congrFun e1.nullary _) i
  have h30 := h30.trans (Row.random_scaled _)
  exact (congrFun e2.binary i).trans (congrArg₂ (FloatOps.cmpf (F := Ideal) .olt) h30 hp)

theorem split_at (h : HoldsAll W (splitOps (F := Ideal))) (i : S262144.Idx) {b : BitVec 1} {l u : Row.R} (hb : bitAt W (bit main_v32) i = b)
    (hl : numAt W (vec main_v4) i = l) (hu : numAt W (vec main_v5) i = u) :
    bitAt W (bit main_v33) i = ~~~b ∧ numAt W (vec main_v38) i = Row.half (Row.leftSum l u)
      ∧ numAt W (vec main_v41) i = Row.half (Row.leftGap l u) ∧ numAt W (vec main_v46) i = Row.half (Row.rightSum l u)
      ∧ numAt W (vec main_v49) i = Row.half (Row.rightGap l u) := by
  unfold splitOps at h
  simp only [List.flatten_cons, List.flatten_nil, List.append_nil, holdsAll_append] at h
  obtain ⟨⟨e33, -⟩, f34, ⟨e35, e36, -⟩, f37, ⟨e38, e39, -⟩, f40, ⟨e41, -⟩, f42, ⟨e43, e44, -⟩, f45, ⟨e46, e47, -⟩, f48, e49, -⟩ := h
  have h35 : numAt W (vec main_v35) i = FloatOps.minimumf u (Row.lit 0x00000000#32) :=
    (congrFun e35.binary i).trans (congrArg₂ (FloatOps.minimumf (F := Ideal)) hu (fill_at f34 i))
  have h36 : numAt W (vec main_v36) i = Row.leftSum l u := (congrFun e36.binary i).trans (congrArg₂ (FloatOps.addf (F := Ideal)) hl h35)
  have h39 : numAt W (vec main_v39) i = Row.leftGap l u := (congrFun e39.binary i).trans (congrArg₂ (FloatOps.subf (F := Ideal)) h35 hl)
  have h43 : numAt W (vec main_v43) i = FloatOps.maximumf l (Row.lit 0x00000000#32) :=
    (congrFun e43.binary i).trans (congrArg₂ (FloatOps.maximumf (F := Ideal)) hl (fill_at f42 i))
  have h44 : numAt W (vec main_v44) i = Row.rightSum l u := (congrFun e44.binary i).trans (congrArg₂ (FloatOps.addf (F := Ideal)) h43 hu)
  have h47 : numAt W (vec main_v47) i = Row.rightGap l u := (congrFun e47.binary i).trans (congrArg₂ (FloatOps.subf (F := Ideal)) hu h43)
  exact ⟨(congrFun e33.unary i).trans (congrArg (~~~ ·) hb),
    (congrFun e38.binary i).trans (congrArg₂ (FloatOps.divf (F := Ideal)) h36 (fill_at f37 i)),
    (congrFun e41.binary i).trans (congrArg₂ (FloatOps.divf (F := Ideal)) h39 (fill_at f40 i)),
    (congrFun e46.binary i).trans (congrArg₂ (FloatOps.divf (F := Ideal)) h44 (fill_at f45 i)),
    (congrFun e49.binary i).trans (congrArg₂ (FloatOps.divf (F := Ideal)) h47 (fill_at f48 i))⟩

theorem mass_at {p c b x l y} (h : HoldsAll W (massOps (F := Ideal) p c b x l y)) (i : S262144.Idx) {q : Row.R} (hp : numAt W p i = q) :
    numAt W y i = Row.mass (argP W i) q := by
  unfold massOps at h
  simp only [List.flatten_cons, List.flatten_nil, List.append_nil, holdsAll_append] at h
  obtain ⟨f, ex, el, ey, -⟩ := h
  have hx : numAt W x i = FloatOps.maximumf q (Row.lit 0x2B8CBCCC#32) :=
    (congrFun ex.binary i).trans (congrArg₂ (FloatOps.maximumf (F := Ideal)) hp (fill_at f i))
  have hl : numAt W l i = FloatOps.log (FloatOps.maximumf q (Row.lit 0x2B8CBCCC#32)) :=
    (congrFun el.unary i).trans (congrArg (FloatOps.log (F := Ideal) (φ := .f32)) hx)
  exact (congrFun ey.binary i).trans (congrArg (FloatOps.addf (F := Ideal) (φ := .f32) (argP W i)) hl)

/-- An operation that sets a matrix's column. -/
theorem place {x i u y : Ref sig .tc} {f : x.ty.Contents (Elt Ideal) → i.ty.Contents (Elt Ideal) → u.ty.Contents (Elt Ideal) → y.ty.Contents (Elt Ideal)}
    {hx hi hu hy} (h : Holds W (ternary (τ := τ) x i u y f hx hi hu hy)) : W y = f (W x) (W i) (W u) :=
  (h _ (Finset.mem_singleton_self _)).trans (ternary_result ..)

/-- The reference's eight results. -/
theorem results (h : HoldsAll W (ops (F := Ideal))) :
    W main_v51 = Batch.leftCentre (argA W) (argD W) ∧ W main_v53 = Batch.leftRadius (argA W) (argD W)
      ∧ W main_v61 = Batch.leftMass (argA W) (argD W) (argP W) ∧ W main_v55 = Batch.rightCentre (argA W) (argD W)
      ∧ W main_v57 = Batch.rightRadius (argA W) (argD W) ∧ W main_v65 = Batch.rightMass (argA W) (argD W) (argP W)
      ∧ W main_v66 = Batch.leftBit (argA W) (argD W) ∧ W main_v67 = Batch.rightBit (argA W) (argD W) := by
  unfold ops at h
  simp only [List.flatten_cons, List.flatten_nil, List.append_nil, holdsAll_append] at h
  obtain ⟨hb, hp, hk, hr, hs, hpl, hw⟩ := h
  unfold placeOps at hpl
  simp only [List.flatten_cons, List.flatten_nil, List.append_nil, holdsAll_append] at hpl
  obtain ⟨f50, ⟨e51, -⟩, f52, ⟨e53, -⟩, f54, ⟨e55, -⟩, f56, e57, -⟩ := hpl
  unfold weighOps at hw
  simp only [List.flatten_cons, List.flatten_nil, List.append_nil, holdsAll_append] at hw
  obtain ⟨m61, m65, e66, e67, -⟩ := hw
  have B := fun i => bounds_at hb i
  have Q := fun i => prob_at hp i (B i).1 (B i).2
  have C := fun i => bernoulli_at hk hr i (Q i).1
  have S := fun i => split_at hs i (C i) (B i).1 (B i).2
  refine ⟨?_, ?_, ?_, ?_, ?_, ?_, ?_, ?_⟩
  · exact (place e51).trans ((setColumn_first _ _ (first_at f50) _).trans (congrArg (Batch.setFirst _) (funext fun n => (S (ix1 n)).2.1)))
  · exact (place e53).trans ((setColumn_first _ _ (first_at f52) _).trans (congrArg (Batch.setFirst _) (funext fun n => (S (ix1 n)).2.2.1)))
  · exact funext fun i => mass_at m61 i (Q i).1
  · exact (place e55).trans ((setColumn_first _ _ (first_at f54) _).trans (congrArg (Batch.setFirst _) (funext fun n => (S (ix1 n)).2.2.2.1)))
  · exact (place e57).trans ((setColumn_first _ _ (first_at f56) _).trans (congrArg (Batch.setFirst _) (funext fun n => (S (ix1 n)).2.2.2.2)))
  · exact funext fun i => mass_at m65 i (Q i).2
  · exact funext fun i => (congrFun e66.unary i).trans (congrArg Row.ofBit (C i))
  · exact funext fun i => (congrFun e67.unary i).trans (congrArg Row.ofBit (S i).1)

end Cert.RefRows
-- ==== Proof.RefRun.lean ====
/- Every execution of the reference: its eight results as functions of its three arguments. -/
module

public import proofs.«01_k».proof.Proof.RefRows

@[expose] public section

noncomputable section

namespace Cert.RefRun

open Cert.ReferenceIdeal
open Idealize.ShloMosaic Idealize.ShloMosaic.TcCoe Idealize.SL.Sem

variable [Facts] (m : (ℓ : Loc nD τ sig) → Buf (Elt Ideal) ℓ) (c : Dev nD)

/-- The centres. -/
abbrev argA : Batch.Mat := m ((c.tc : Thread nD τ).loc main_arg0)

/-- The half-widths. -/
abbrev argD : Batch.Mat := m ((c.tc : Thread nD τ).loc main_arg1)

/-- The weights. -/
abbrev argP : Batch.Col := m ((c.tc : Thread nD τ).loc main_arg2)

/-- Every execution of the reference ends with the eight results at those functions of the arguments, and the arguments
    unchanged. -/
theorem run (ρ : Dev nD → PrngReg) :
    θ_run (defs (F := Ideal)) (onTc (τ := τ) main) ⟨m, fun _ => 0, ρ⟩ fun r => ∀ c : Dev nD,
      r.2.mem ((c.tc : Thread nD τ).loc main_v51) = Batch.leftCentre (argA m c) (argD m c)
      ∧ r.2.mem ((c.tc : Thread nD τ).loc main_v53) = Batch.leftRadius (argA m c) (argD m c)
      ∧ r.2.mem ((c.tc : Thread nD τ).loc main_v61) = Batch.leftMass (argA m c) (argD m c) (argP m c)
      ∧ r.2.mem ((c.tc : Thread nD τ).loc main_v55) = Batch.rightCentre (argA m c) (argD m c)
      ∧ r.2.mem ((c.tc : Thread nD τ).loc main_v57) = Batch.rightRadius (argA m c) (argD m c)
      ∧ r.2.mem ((c.tc : Thread nD τ).loc main_v65) = Batch.rightMass (argA m c) (argD m c) (argP m c)
      ∧ r.2.mem ((c.tc : Thread nD τ).loc main_v66) = Batch.leftBit (argA m c) (argD m c)
      ∧ r.2.mem ((c.tc : Thread nD τ).loc main_v67) = Batch.rightBit (argA m c) (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨W, hW, hr, hm⟩ := h c
    have a0 := hm main_arg0 (by decide)
    have a1 := hm main_arg1 (by decide)
    have a2 := hm main_arg2 (by decide)
    have e := RefRows.results hW
    have e0 : RefRows.argA W = argA m c := a0
    have e1 : RefRows.argD W = argD m c := a1
    have e2 : RefRows.argP W = argP m c := a2
    rw [e0, e1, e2] at e
    obtain ⟨h1, h2, h3, h4, h5, h6, h7, h8⟩ := e
    exact ⟨(hr _).trans h1, (hr _).trans h2, (hr _).trans h3, (hr _).trans h4, (hr _).trans h5, (hr _).trans h6,
      (hr _).trans h7, (hr _).trans h8, (hr _).trans a0, (hr _).trans a1, (hr _).trans a2⟩) (RefOps.run m ρ)

end Cert.RefRun
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.Gen.KernelIdeal.Read
public import proofs.«01_k».proof.Proof.KerArrays
public import proofs.«01_k».proof.Proof.RefRun
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to the end with its arguments unchanged and every semaphore at zero: it has none. -/
theorem reference_frame [hReferenceIdeal : Cert.ReferenceIdeal.Facts] : Cert.quiescent_ReferenceIdeal := fun m g _ =>
  (θ_run _ _ _).mono (fun r h => ⟨fun c => (h c).2.2.2.2.2.2.2.2, sem_eq_zero_of_no_sems (by decide) r.2⟩) (Cert.RefRun.run m g)

/-- The kernel's eight results are the reference's. -/
theorem same_results [hReferenceIdeal : Cert.ReferenceIdeal.Facts] :
    Cert.algebraic_KernelIdeal_ReferenceIdeal (hKernelIdeal := Cert.KernelIdeal.Gen.facts) := fun m g m' g' _ hm => by
  refine ⟨_, _, _, _, _, _, _, _, Cert.KerArrays.run m g, (θ_run _ _ _).mono (fun r h c => ?_) (Cert.RefRun.run m' g')⟩
  have e0 : Cert.RefRun.argA m' c = Cert.KerArrays.argA m c := (hm c).1
  have e1 : Cert.RefRun.argD m' c = Cert.KerArrays.argD m c := (hm c).2.1
  have e2 : Cert.RefRun.argP m' c = Cert.KerArrays.argP m c := (hm c).2.2
  have hc := h c
  rw [e0, e1, e2] at hc
  exact hc

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  reference_frame (hReferenceIdeal := Cert.ReferenceIdeal.Gen.facts), trivial,
  same_results (hReferenceIdeal := Cert.ReferenceIdeal.Gen.facts)⟩

end Cert.Proof

end
